-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_band_finite [hPre_band_finite : Cert.Pre_band_finite.Facts] (m : (ℓ : Loc Cert.BandIdeal.nD Cert.BandIdeal.τ Cert.BandIdeal.sig) → Buf (Elt Ideal) ℓ) : Prop :=
  ∀ c : Dev Cert.BandIdeal.nD,
    (Cert.Pre_band_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_band_finite [hPre_band_finite : Cert.Pre_band_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_band_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))) = (fun _ => 1#1)

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepIdeal_step_finite [hPre_step_finite : Cert.Pre_step_finite.Facts] (m : (ℓ : Loc Cert.StepIdeal.nD Cert.StepIdeal.τ Cert.StepIdeal.sig) → Buf (Elt Ideal) ℓ) : Prop :=
  ∀ c : Dev Cert.StepIdeal.nD,
    (Cert.Pre_step_finite.fn (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3))) = (fun _ => 1#1)

def Pre_StepRefIdeal (m : (ℓ : Loc Cert.StepRefIdeal.nD Cert.StepRefIdeal.τ Cert.StepRefIdeal.sig) → Buf (Elt Ideal) ℓ) : Prop :=
  True

def Pre_StepRefIdeal_step_finite [hPre_step_finite : Cert.Pre_step_finite.Facts] (m : (ℓ : Loc Cert.StepRefIdeal.nD Cert.StepRefIdeal.τ Cert.StepRefIdeal.sig) → Buf (Elt Ideal) ℓ) : Prop :=
  ∀ c : Dev Cert.StepRefIdeal.nD,
    (Cert.Pre_step_finite.fn (F := Ideal) (m ((c.tc : Thread Cert.StepRefIdeal.nD Cert.StepRefIdeal.τ).loc Cert.StepRefIdeal.main_arg0)) (m ((c.tc : Thread Cert.StepRefIdeal.nD Cert.StepRefIdeal.τ).loc Cert.StepRefIdeal.main_arg1)) (m ((c.tc : Thread Cert.StepRefIdeal.nD Cert.StepRefIdeal.τ).loc Cert.StepRefIdeal.main_arg2)) (m ((c.tc : Thread Cert.StepRefIdeal.nD Cert.StepRefIdeal.τ).loc Cert.StepRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_band_finite [hBandIdeal : Cert.BandIdeal.Facts] [hPre_band_finite : Cert.Pre_band_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_band_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_band_finite [hBandRefIdeal : Cert.BandRefIdeal.Facts] [hPre_band_finite : Cert.Pre_band_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_band_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ r.2.sem = fun _ => 0)

def quiescent_StepIdeal_pre_step_finite [hStepIdeal : Cert.StepIdeal.Facts] [hPre_step_finite : Cert.Pre_step_finite.Facts] : Prop :=
  ∀ (m : (ℓ : Loc Cert.StepIdeal.nD Cert.StepIdeal.τ Cert.StepIdeal.sig) → Buf (Elt Ideal) ℓ) (g : Dev Cert.StepIdeal.nD → PrngReg), Pre_StepIdeal_step_finite m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3))
      ∧ r.2.sem = fun _ => 0)

def quiescent_StepRefIdeal_pre_step_finite [hStepRefIdeal : Cert.StepRefIdeal.Facts] [hPre_step_finite : Cert.Pre_step_finite.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal_step_finite m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def preserves_Band_BandIdeal : Prop :=
  True

def algebraic_BandIdeal_BandRefIdeal_pre_band_finite [hBandIdeal : Cert.BandIdeal.Facts] [hBandRefIdeal : Cert.BandRefIdeal.Facts] [hPre_band_finite : Cert.Pre_band_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_band_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v5)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v5) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v58) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def preserves_Step_StepIdeal : Prop :=
  True

def algebraic_StepIdeal_StepRefIdeal_pre_step_finite [hStepIdeal : Cert.StepIdeal.Facts] [hStepRefIdeal : Cert.StepRefIdeal.Facts] [hPre_step_finite : Cert.Pre_step_finite.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal_step_finite m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)) →
    ∃ (v0 : (c : Dev Cert.StepIdeal.nD) → Buf (Elt Ideal) ((c.tc : Thread Cert.StepIdeal.nD Cert.StepIdeal.τ).loc Cert.StepIdeal.main_v11)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v11) = v0 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v49) = v0 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v10)) (v1 : (c : Dev Cert.ProjIdeal.nD) → Buf (Elt Ideal) ((c.tc : Thread Cert.ProjIdeal.nD Cert.ProjIdeal.τ).loc Cert.ProjIdeal.main_v17)) (v2 : (c : Dev Cert.ProjIdeal.nD) → Buf (Elt Ideal) ((c.tc : Thread Cert.ProjIdeal.nD Cert.ProjIdeal.τ).loc Cert.ProjIdeal.main_v18)) (v3 : (c : Dev Cert.ProjIdeal.nD) → Buf (Elt Ideal) ((c.tc : Thread Cert.ProjIdeal.nD Cert.ProjIdeal.τ).loc Cert.ProjIdeal.main_v19)) (v4 : (c : Dev Cert.ProjIdeal.nD) → Buf (Elt Ideal) ((c.tc : Thread Cert.ProjIdeal.nD Cert.ProjIdeal.τ).loc Cert.ProjIdeal.main_v20)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10) = v0 c
          ∧ r.2.mem ((c.tc : Thread Cert.ProjIdeal.nD Cert.ProjIdeal.τ).loc Cert.ProjIdeal.main_v17) = v1 c
          ∧ r.2.mem ((c.tc : Thread Cert.ProjIdeal.nD Cert.ProjIdeal.τ).loc Cert.ProjIdeal.main_v18) = v2 c
          ∧ r.2.mem ((c.tc : Thread Cert.ProjIdeal.nD Cert.ProjIdeal.τ).loc Cert.ProjIdeal.main_v19) = v3 c
          ∧ r.2.mem ((c.tc : Thread Cert.ProjIdeal.nD Cert.ProjIdeal.τ).loc Cert.ProjIdeal.main_v20) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v21) = v0 c
          ∧ r.2.mem ((c.tc : Thread Cert.ProjRefIdeal.nD Cert.ProjRefIdeal.τ).loc Cert.ProjRefIdeal.main_v33) = v1 c
          ∧ r.2.mem ((c.tc : Thread Cert.ProjRefIdeal.nD Cert.ProjRefIdeal.τ).loc Cert.ProjRefIdeal.main_v34) = v2 c
          ∧ r.2.mem ((c.tc : Thread Cert.ProjRefIdeal.nD Cert.ProjRefIdeal.τ).loc Cert.ProjRefIdeal.main_v35) = v3 c
          ∧ r.2.mem ((c.tc : Thread Cert.ProjRefIdeal.nD Cert.ProjRefIdeal.τ).loc Cert.ProjRefIdeal.main_v36) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)) →
    ∃ (v0 : (c : Dev Cert.SampleIdeal.nD) → Buf (Elt Ideal) ((c.tc : Thread Cert.SampleIdeal.nD Cert.SampleIdeal.τ).loc Cert.SampleIdeal.main_v10)) (v1 : (c : Dev Cert.SampleIdeal.nD) → Buf (Elt Ideal) ((c.tc : Thread Cert.SampleIdeal.nD Cert.SampleIdeal.τ).loc Cert.SampleIdeal.main_v15)) (v2 : (c : Dev Cert.SampleIdeal.nD) → Buf (Elt Ideal) ((c.tc : Thread Cert.SampleIdeal.nD Cert.SampleIdeal.τ).loc Cert.SampleIdeal.main_v16)) (v3 : (c : Dev Cert.SampleIdeal.nD) → Buf (Elt Ideal) ((c.tc : Thread Cert.SampleIdeal.nD Cert.SampleIdeal.τ).loc Cert.SampleIdeal.main_v17)) (v4 : (c : Dev Cert.SampleIdeal.nD) → Buf (Elt Ideal) ((c.tc : Thread Cert.SampleIdeal.nD Cert.SampleIdeal.τ).loc Cert.SampleIdeal.main_v18)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v10) = v0 c
          ∧ r.2.mem ((c.tc : Thread Cert.SampleIdeal.nD Cert.SampleIdeal.τ).loc Cert.SampleIdeal.main_v15) = v1 c
          ∧ r.2.mem ((c.tc : Thread Cert.SampleIdeal.nD Cert.SampleIdeal.τ).loc Cert.SampleIdeal.main_v16) = v2 c
          ∧ r.2.mem ((c.tc : Thread Cert.SampleIdeal.nD Cert.SampleIdeal.τ).loc Cert.SampleIdeal.main_v17) = v3 c
          ∧ r.2.mem ((c.tc : Thread Cert.SampleIdeal.nD Cert.SampleIdeal.τ).loc Cert.SampleIdeal.main_v18) = v4 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v21) = v0 c
          ∧ r.2.mem ((c.tc : Thread Cert.SampleRefIdeal.nD Cert.SampleRefIdeal.τ).loc Cert.SampleRefIdeal.main_v32) = v1 c
          ∧ r.2.mem ((c.tc : Thread Cert.SampleRefIdeal.nD Cert.SampleRefIdeal.τ).loc Cert.SampleRefIdeal.main_v33) = v2 c
          ∧ r.2.mem ((c.tc : Thread Cert.SampleRefIdeal.nD Cert.SampleRefIdeal.τ).loc Cert.SampleRefIdeal.main_v26) = v3 c
          ∧ r.2.mem ((c.tc : Thread Cert.SampleRefIdeal.nD Cert.SampleRefIdeal.τ).loc Cert.SampleRefIdeal.main_v27) = v4 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v30) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def Claim : Prop :=
  ∃ (hBand : Cert.Band.Facts) (hBandIdeal : Cert.BandIdeal.Facts) (hBandRefIdeal : Cert.BandRefIdeal.Facts) (hStep : Cert.Step.Facts) (hStepIdeal : Cert.StepIdeal.Facts) (hStepRefIdeal : Cert.StepRefIdeal.Facts) (hProj : Cert.Proj.Facts) (hProjIdeal : Cert.ProjIdeal.Facts) (hProjRefIdeal : Cert.ProjRefIdeal.Facts) (hSample : Cert.Sample.Facts) (hSampleIdeal : Cert.SampleIdeal.Facts) (hSampleRefIdeal : Cert.SampleRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hPre_band_finite : Cert.Pre_band_finite.Facts) (hPre_step_finite : Cert.Pre_step_finite.Facts),
    quiescent_Band (hBand := hBand)
    ∧ quiescent_BandIdeal (hBandIdeal := hBandIdeal)
    ∧ quiescent_BandIdeal_pre_band_finite (hBandIdeal := hBandIdeal) (hPre_band_finite := hPre_band_finite)
    ∧ quiescent_BandRefIdeal (hBandRefIdeal := hBandRefIdeal)
    ∧ quiescent_BandRefIdeal_pre_band_finite (hBandRefIdeal := hBandRefIdeal) (hPre_band_finite := hPre_band_finite)
    ∧ quiescent_Step (hStep := hStep)
    ∧ quiescent_StepIdeal (hStepIdeal := hStepIdeal)
    ∧ quiescent_StepIdeal_pre_step_finite (hStepIdeal := hStepIdeal) (hPre_step_finite := hPre_step_finite)
    ∧ quiescent_StepRefIdeal (hStepRefIdeal := hStepRefIdeal)
    ∧ quiescent_StepRefIdeal_pre_step_finite (hStepRefIdeal := hStepRefIdeal) (hPre_step_finite := hPre_step_finite)
    ∧ quiescent_Proj (hProj := hProj)
    ∧ quiescent_ProjIdeal (hProjIdeal := hProjIdeal)
    ∧ quiescent_ProjRefIdeal (hProjRefIdeal := hProjRefIdeal)
    ∧ quiescent_Sample (hSample := hSample)
    ∧ quiescent_SampleIdeal (hSampleIdeal := hSampleIdeal)
    ∧ quiescent_SampleRefIdeal (hSampleRefIdeal := hSampleRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ preserves_Band_BandIdeal
    ∧ algebraic_BandIdeal_BandRefIdeal_pre_band_finite (hBandIdeal := hBandIdeal) (hBandRefIdeal := hBandRefIdeal) (hPre_band_finite := hPre_band_finite)
    ∧ preserves_Step_StepIdeal
    ∧ algebraic_StepIdeal_StepRefIdeal_pre_step_finite (hStepIdeal := hStepIdeal) (hStepRefIdeal := hStepRefIdeal) (hPre_step_finite := hPre_step_finite)
    ∧ preserves_Proj_ProjIdeal
    ∧ algebraic_ProjIdeal_ProjRefIdeal (hProjIdeal := hProjIdeal) (hProjRefIdeal := hProjRefIdeal)
    ∧ preserves_Sample_SampleIdeal
    ∧ algebraic_SampleIdeal_SampleRefIdeal (hSampleIdeal := hSampleIdeal) (hSampleRefIdeal := hSampleRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
-- ==== Pre_band_finite.lean ====
abbrev S32x2048x6912 : Shape := ⟨3, ![32, 2048, 6912]⟩
abbrev S4x257 : Shape := ⟨2, ![4, 257]⟩
abbrev S32x2048x512 : Shape := ⟨3, ![32, 2048, 512]⟩
abbrev S_ : Shape := ⟨0, ![]⟩

class Facts : Prop where
  slices_S32x2048x6912_S32x2048x512_0_0_3072 : S32x2048x6912.Slices ![0, 0, 3072] S32x2048x512
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S4x257 : S_.BroadcastsInDim S4x257 (![] : Fin 0 → Fin S4x257.rank)
  reducesTo_S4x257_S_d0_1 : S4x257.ReducesTo [0, 1] S_

variable [Facts]

def fn {F : FTy → Type} [FloatOps F] (main_arg0 : FVec F S32x2048x6912 .f32) (main_arg1 : FVec F S4x257 .f32) : IVec S_ 1 :=
  let main_v0 : FVec F S32x2048x512 .f32 := (extractStridedSlice S32x2048x512 ![0, 0, 3072] · slices_S32x2048x6912_S32x2048x512_0_0_3072) main_arg0
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_c : IVec S_ 1 := constantI S_ 1 1#1
  let main_v4 : IVec S_ 1 := (fun x v => Host.reduce IntOp.andi x v reducesTo_S32x2048x512_S_d0_1_2 h_S_) main_v3 main_c
  let main_v5 : FVec F S4x257 .f32 := Host.absf main_arg1
  let main_cst_0 : FVec F S_ .f32 := constant S_ .f32 0x7F800000#32
  let main_v6 : FVec F S4x257 .f32 := broadcastInDim S4x257 ![] bcast_S_S4x257 main_cst_0
  let main_v7 : IVec S4x257 1 := cmpf .olt main_v5 main_v6
  let main_c_1 : IVec S_ 1 := constantI S_ 1 1#1
  let main_v8 : IVec S_ 1 := (fun x v => Host.reduce IntOp.andi x v reducesTo_S4x257_S_d0_1 h_S_) main_v7 main_c_1
  let main_v9 : IVec S_ 1 := andi main_v4 main_v8
  main_v9
-- ==== Pre_step_finite.lean ====
abbrev S16x32x6912 : Shape := ⟨3, ![16, 32, 6912]⟩
abbrev S16x512x4x64 : Shape := ⟨4, ![16, 512, 4, 64]⟩
abbrev S4x257 : Shape := ⟨2, ![4, 257]⟩
abbrev S16x32x512 : Shape := ⟨3, ![16, 32, 512]⟩
abbrev S_ : Shape := ⟨0, ![]⟩

class Facts : Prop where
  slices_S16x32x6912_S16x32x512_0_0_3072 : S16x32x6912.Slices ![0, 0, 3072] S16x32x512
  bcast_S_S16x32x512 : S_.BroadcastsInDim S16x32x512 (![] : Fin 0 → Fin S16x32x512.rank)
  reducesTo_S16x32x512_S_d0_1_2 : S16x32x512.ReducesTo [0, 1, 2] S_
  h_S_ : 0 < S_.numel
  bcast_S_S16x512x4x64 : S_.BroadcastsInDim S16x512x4x64 (![] : Fin 0 → Fin S16x512x4x64.rank)
  reducesTo_S16x512x4x64_S_d0_1_2_3 : S16x512x4x64.ReducesTo [0, 1, 2, 3] S_
  bcast_S_S4x257 : S_.BroadcastsInDim S4x257 (![] : Fin 0 → Fin S4x257.rank)
  reducesTo_S4x257_S_d0_1 : S4x257.ReducesTo [0, 1] S_

variable [Facts]

def fn {F : FTy → Type} [FloatOps F] (main_arg0 : FVec F S16x32x6912 .f32) (main_arg1 : FVec F S16x512x4x64 .f32) (main_arg2 : FVec F S16x512x4x64 .f32) (main_arg3 : FVec F S4x257 .f32) : IVec S_ 1 :=
  let main_v0 : FVec F S16x32x512 .f32 := (extractStridedSlice S16x32x512 ![0, 0, 3072] · slices_S16x32x6912_S16x32x512_0_0_3072) main_arg0
  let main_v1 : FVec F S16x32x512 .f32 := Host.absf main_v0
  let main_cst : FVec F S_ .f32 := constant S_ .f32 0x7F800000#32
  let main_v2 : FVec F S16x32x512 .f32 := broadcastInDim S16x32x512 ![] bcast_S_S16x32x512 main_cst
  let main_v3 : IVec S16x32x512 1 := cmpf .olt main_v1 main_v2
  let main_c : IVec S_ 1 := constantI S_ 1 1#1
  let main_v4 : IVec S_ 1 := (fun x v => Host.reduce IntOp.andi x v reducesTo_S16x32x512_S_d0_1_2 h_S_) main_v3 main_c
  let main_v5 : FVec F S16x512x4x64 .f32 := Host.absf main_arg1
  let main_cst_0 : FVec F S_ .f32 := constant S_ .f32 0x7F800000#32
  let main_v6 : FVec F S16x512x4x64 .f32 := broadcastInDim S16x512x4x64 ![] bcast_S_S16x512x4x64 main_cst_0
  let main_v7 : IVec S16x512x4x64 1 := cmpf .olt main_v5 main_v6
  let main_c_1 : IVec S_ 1 := constantI S_ 1 1#1
  let main_v8 : IVec S_ 1 := (fun x v => Host.reduce IntOp.andi x v reducesTo_S16x512x4x64_S_d0_1_2_3 h_S_) main_v7 main_c_1
  let main_v9 : IVec S_ 1 := andi main_v4 main_v8
  let main_v10 : FVec F S4x257 .f32 := Host.absf main_arg3
  let main_cst_2 : FVec F S_ .f32 := constant S_ .f32 0x7F800000#32
  let main_v11 : FVec F S4x257 .f32 := broadcastInDim S4x257 ![] bcast_S_S4x257 main_cst_2
  let main_v12 : IVec S4x257 1 := cmpf .olt main_v10 main_v11
  let main_c_3 : IVec S_ 1 := constantI S_ 1 1#1
  let main_v13 : IVec S_ 1 := (fun x v => Host.reduce IntOp.andi x v reducesTo_S4x257_S_d0_1 h_S_) main_v12 main_c_3
  let main_v14 : IVec S_ 1 := andi main_v9 main_v13
  main_v14
-- ==== Band.lean ====
abbrev S32x2048x6912 : Shape := ⟨3, ![32, 2048, 6912]⟩
abbrev S4x257 : Shape := ⟨2, ![4, 257]⟩
abbrev S64x576 : Shape := ⟨2, ![64, 576]⟩
abbrev S_ : Shape := ⟨0, ![]⟩
abbrev S64x576x1 : Shape := ⟨3, ![64, 576, 1]⟩
abbrev S4x64x576 : Shape := ⟨3, ![4, 64, 576]⟩
abbrev S32x2048x256 : Shape := ⟨3, ![32, 2048, 256]⟩
abbrev S1x64x256 : Shape := ⟨3, ![1, 64, 256]⟩
abbrev S1x2048x256 : Shape := ⟨3, ![1, 2048, 256]⟩
abbrev S2560x256 : Shape := ⟨2, ![2560, 256]⟩
abbrev S512x256 : Shape := ⟨2, ![512, 256]⟩
abbrev S2048x256 : Shape := ⟨2, ![2048, 256]⟩
abbrev S576x256 : Shape := ⟨2, ![576, 256]⟩
abbrev S64x256 : Shape := ⟨2, ![64, 256]⟩
abbrev S64x64 : Shape := ⟨2, ![64, 64]⟩
abbrev S576x64 : Shape := ⟨2, ![576, 64]⟩
abbrev S1x64x576 : Shape := ⟨3, ![1, 64, 576]⟩
abbrev S64 : Shape := ⟨1, ![64]⟩
abbrev S64x1 : Shape := ⟨2, ![64, 1]⟩
abbrev S1x64x64 : Shape := ⟨3, ![1, 64, 64]⟩

abbrev nBuf : Space → Nat
  | .hbm => 11
  | .vmem => 11
  | .smem => 0
  | _ => 0

abbrev bufTy : (tb : Table) → Fin (tcTables nBuf tb) → BufTy
  | .hbm, ⟨0, _⟩ => ⟨S32x2048x6912, .f32⟩
  | .hbm, ⟨1, _⟩ => ⟨S4x257, .f32⟩
  | .hbm, ⟨2, _⟩ => ⟨S64x576, .i32⟩
  | .hbm, ⟨3, _⟩ => ⟨S64x576, .i1⟩
  | .hbm, ⟨4, _⟩ => ⟨S_, .i32⟩
  | .hbm, ⟨5, _⟩ => ⟨S64x576, .i32⟩
  | .hbm, ⟨6, _⟩ => ⟨S64x576, .i32⟩
  | .hbm, ⟨7, _⟩ => ⟨S64x576, .i32⟩
  | .hbm, ⟨8, _⟩ => ⟨S64x576x1, .i32⟩
  | .hbm, ⟨9, _⟩ => ⟨S4x64x576, .f32⟩
  | .hbm, ⟨10, _⟩ => ⟨S32x2048x256, .f32⟩
  | .local _ .vmem, ⟨0, _⟩ => ⟨S1x64x256, .f32⟩
  | .local _ .vmem, ⟨1, _⟩ => ⟨S1x64x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S4x64x576, .f32⟩
  | .local _ .vmem, ⟨7, _⟩ => ⟨S1x64x256, .f32⟩
  | .local _ .vmem, ⟨8, _⟩ => ⟨S1x64x256, .f32⟩
  | .local _ .vmem, ⟨9, _⟩ => ⟨S2560x256, .bf16⟩
  | .local _ .vmem, ⟨10, _⟩ => ⟨S2560x256, .bf16⟩
  | _, _ => ⟨S32x2048x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 32], ![false, false]⟩

def k0_mult1 (i : grid0.Coords) : BitVec 32 :=
  let arg1 : BitVec 32 := BitVec.ofNat 32 (i 1).val
  let c64_i32 : BitVec 32 := 64#32
  let v3 : BitVec 32 := Scalar.muli arg1 c64_i32
  v3
def k0_off1 (i : grid0.Coords) : Fin 2 → Nat :=
  let arg1 : BitVec 32 := BitVec.ofNat 32 (i 1).val
  let c64_i32 : BitVec 32 := 64#32
  let v3 : BitVec 32 := Scalar.muli arg1 c64_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c13_i32 : BitVec 32 := 13#32
  let c0_i32_0 : BitVec 32 := 0#32
  ![arg0.toNat, c0_i32.toNat, c13_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c14_i32 : BitVec 32 := 14#32
  let c0_i32_0 : BitVec 32 := 0#32
  ![arg0.toNat, c0_i32.toNat, c14_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BandRefIdeal.lean ====
abbrev S32x2048x6912 : Shape := ⟨3, ![32, 2048, 6912]⟩
abbrev S4x257 : Shape := ⟨2, ![4, 257]⟩
abbrev S32x2048x768 : Shape := ⟨3, ![32, 2048, 768]⟩
abbrev S32x2048x256 : Shape := ⟨3, ![32, 2048, 256]⟩
abbrev S32x2048x4x64 : Shape := ⟨4, ![32, 2048, 4, 64]⟩
abbrev S2048 : Shape := ⟨1, ![2048]⟩
abbrev S32x4x2048x2048 : Shape := ⟨4, ![32, 4, 2048, 2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S4x2048x2048 : Shape := ⟨3, ![4, 2048, 2048]⟩
abbrev S1x4x2048x2048 : Shape := ⟨4, ![1, 4, 2048, 2048]⟩
abbrev S1x1x2048x2048 : Shape := ⟨4, ![1, 1, 2048, 2048]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩

abbrev nBuf : Space → Nat
  | .hbm => 97
  | .vmem => 0
  | .smem => 0
  | _ => 0

abbrev bufTy : (tb : Table) → Fin (tcTables nBuf tb) → BufTy
  | .hbm, ⟨0, _⟩ => ⟨S32x2048x6912, .f32⟩
  | .hbm, ⟨1, _⟩ => ⟨S4x257, .f32⟩
  | .hbm, ⟨2, _⟩ => ⟨S32x2048x768, .f32⟩
  | .hbm, ⟨3, _⟩ => ⟨S32x2048x256, .f32⟩
  | .hbm, ⟨4, _⟩ => ⟨S32x2048x256, .f32⟩
  | .hbm, ⟨5, _⟩ => ⟨S32x2048x256, .f32⟩
  | .hbm, ⟨6, _⟩ => ⟨S32x2048x4x64, .f32⟩
  | .hbm, ⟨7, _⟩ => ⟨S32x2048x4x64, .f32⟩
  | .hbm, ⟨8, _⟩ => ⟨S32x2048x4x64, .f32⟩
  | .hbm, ⟨9, _⟩ => ⟨S2048, .i32⟩
  | .hbm, ⟨10, _⟩ => ⟨S32x4x2048x2048, .f32⟩
  | .hbm, ⟨11, _⟩ => ⟨S_, .f32⟩
  | .hbm, ⟨12, _⟩ => ⟨S32x4x2048x2048, .f32⟩
  | .hbm, ⟨13, _⟩ => ⟨S32x4x2048x2048, .f32⟩
  | .hbm, ⟨14, _⟩ => ⟨S2048x1, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S_, .i32⟩
  | .hbm, ⟨31, _⟩ => ⟨S2048x2048, .i32⟩
  | .hbm, ⟨32, _⟩ => ⟨S2048x2048, .i1⟩
  | .hbm, ⟨33, _⟩ => ⟨S_, .i32⟩
  | .hbm, ⟨34, _⟩ => ⟨S2048x2048, .i32⟩
  | .hbm, ⟨35, _⟩ => ⟨S2048x2048, .i32⟩
  | .hbm, ⟨36, _⟩ => ⟨S2048x2048, .i32⟩
  | .hbm, ⟨37, _⟩ => ⟨S2048x2048x1, .i32⟩
  | .hbm, ⟨38, _⟩ => ⟨S4x2048x2048, .f32⟩
  | .hbm, ⟨39, _⟩ => ⟨S1x4x2048x2048, .f32⟩
  | .hbm, ⟨40, _⟩ => ⟨S32x4x2048x2048, .f32⟩
  | .hbm, ⟨41, _⟩ => ⟨S32x4x2048x2048, .f32⟩
  | .hbm, ⟨42, _⟩ => ⟨S_, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S2048, .i1⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .i32⟩
  | .hbm, ⟨60, _⟩ => ⟨S1x2048, .i32⟩
  | .hbm, ⟨61, _⟩ => ⟨S2048x1, .i32⟩
  | .hbm, ⟨62, _⟩ => ⟨S2048x2048, .i32⟩
  | .hbm, ⟨63, _⟩ => ⟨S2048x2048, .i32⟩
  | .hbm, ⟨64, _⟩ => ⟨S2048x2048, .i1⟩
  | .hbm, ⟨65, _⟩ => ⟨S2048x1, .i32⟩
  | .hbm, ⟨66, _⟩ => ⟨S1x2048, .i32⟩
  | .hbm, ⟨67, _⟩ => ⟨S_, .i32⟩
  | .hbm, ⟨68, _⟩ => ⟨S1x2048, .i32⟩
  | .hbm, ⟨69, _⟩ => ⟨S1x2048, .i32⟩
  | .hbm, ⟨70, _⟩ => ⟨S2048x2048, .i32⟩
  | .hbm, ⟨71, _⟩ => ⟨S2048x2048, .i32⟩
  | .hbm, ⟨72, _⟩ => ⟨S2048x2048, .i1⟩
  | .hbm, ⟨73, _⟩ => ⟨S2048x2048, .i1⟩
  | .hbm, ⟨74, _⟩ => ⟨S1x1x2048x2048, .i1⟩
  | .hbm, ⟨75, _⟩ => ⟨S_, .f32⟩
  | .hbm, ⟨76, _⟩ => ⟨S_, .f32⟩
  | .hbm, ⟨77, _⟩ => ⟨S32x4x2048x2048, .i1⟩
  | .hbm, ⟨78, _⟩ => ⟨S32x4x2048x2048, .f32⟩
  | .hbm, ⟨79, _⟩ => ⟨S32x4x2048x2048, .f32⟩
  | .hbm, ⟨80, _⟩ => ⟨S_, .f32⟩
  | .hbm, ⟨81, _⟩ => ⟨S32x4x2048, .f32⟩
  | .hbm, ⟨82, _⟩ => ⟨S_, .f32⟩
  | .hbm, ⟨83, _⟩ => ⟨S32x4x2048, .f32⟩
  | .hbm, ⟨84, _⟩ => ⟨S32x4x2048, .f32⟩
  | .hbm, ⟨85, _⟩ => ⟨S32x4x2048x1, .f32⟩
  | .hbm, ⟨86, _⟩ => ⟨S32x4x2048x2048, .f32⟩
  | .hbm, ⟨87, _⟩ => ⟨S32x4x2048x2048, .f32⟩
  | .hbm, ⟨88, _⟩ => ⟨S32x4x2048x2048, .f32⟩
  | .hbm, ⟨89, _⟩ => ⟨S_, .f32⟩
  | .hbm, ⟨90, _⟩ => ⟨S32x4x2048, .f32⟩
  | .hbm, ⟨91, _⟩ => ⟨S32x4x2048x1, .f32⟩
  | .hbm, ⟨92, _⟩ => ⟨S32x4x2048x2048, .f32⟩
  | .hbm, ⟨93, _⟩ => ⟨S32x4x2048x2048, .f32⟩
  | .hbm, ⟨94, _⟩ => ⟨S32x4x64x2048, .f32⟩
  | .hbm, ⟨95, _⟩ => ⟨S32x2048x4x64, .f32⟩
  | .hbm, ⟨96, _⟩ => ⟨S32x2048x256, .f32⟩
  | _, _ => ⟨S32x2048x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v44 : Ref sig .tc := ⟨.hbm, 79, rfl⟩
abbrev main_cst_7 : Ref sig .tc := ⟨.hbm, 80, rfl⟩
abbrev main_v45 : Ref sig .tc := ⟨.hbm, 81, rfl⟩
abbrev main_cst_8 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_9 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩

abbrev nD : Nat := 1
abbrev τ : Topo := Topo.v7x

variable {F : FTy → Type} [FloatOps F]
-- ==== Step.lean ====
abbrev S16x32x6912 : Shape := ⟨3, ![16, 32, 6912]⟩
abbrev S16x512x4x64 : Shape := ⟨4, ![16, 512, 4, 64]⟩
abbrev S4x257 : Shape := ⟨2, ![4, 257]⟩
abbrev S32x544 : Shape := ⟨2, ![32, 544]⟩
abbrev S16x32x256 : Shape := ⟨3, ![16, 32, 256]⟩
abbrev S16x512x256 : Shape := ⟨3, ![16, 512, 256]⟩
abbrev S16x544x256 : Shape := ⟨3, ![16, 544, 256]⟩
abbrev S_ : Shape := ⟨0, ![]⟩
abbrev S32x544x1 : Shape := ⟨3, ![32, 544, 1]⟩
abbrev S4x32x544 : Shape := ⟨3, ![4, 32, 544]⟩
abbrev S1x32x256 : Shape := ⟨3, ![1, 32, 256]⟩
abbrev S1x544x256 : Shape := ⟨3, ![1, 544, 256]⟩
abbrev S32x256 : Shape := ⟨2, ![32, 256]⟩
abbrev S544x256 : Shape := ⟨2, ![544, 256]⟩
abbrev S32x64 : Shape := ⟨2, ![32, 64]⟩
abbrev S544x64 : Shape := ⟨2, ![544, 64]⟩
abbrev S1x32x544 : Shape := ⟨3, ![1, 32, 544]⟩
abbrev S32 : Shape := ⟨1, ![32]⟩
abbrev S32x1 : Shape := ⟨2, ![32, 1]⟩
abbrev S1x32x64 : Shape := ⟨3, ![1, 32, 64]⟩

abbrev nBuf : Space → Nat
  | .hbm => 19
  | .vmem => 9
  | .smem => 0
  | _ => 0

abbrev bufTy : (tb : Table) → Fin (tcTables nBuf tb) → BufTy
  | .hbm, ⟨0, _⟩ => ⟨S16x32x6912, .f32⟩
  | .hbm, ⟨1, _⟩ => ⟨S16x512x4x64, .f32⟩
  | .hbm, ⟨2, _⟩ => ⟨S16x512x4x64, .f32⟩
  | .hbm, ⟨3, _⟩ => ⟨S4x257, .f32⟩
  | .hbm, ⟨4, _⟩ => ⟨S32x544, .i32⟩
  | .hbm, ⟨5, _⟩ => ⟨S32x544, .i1⟩
  | .hbm, ⟨6, _⟩ => ⟨S16x32x256, .f32⟩
  | .hbm, ⟨7, _⟩ => ⟨S16x32x256, .f32⟩
  | .hbm, ⟨8, _⟩ => ⟨S16x512x256, .f32⟩
  | .hbm, ⟨9, _⟩ => ⟨S16x544x256, .f32⟩
  | .hbm, ⟨10, _⟩ => ⟨S16x512x256, .f32⟩
  | .hbm, ⟨11, _⟩ => ⟨S16x544x256, .f32⟩
  | .hbm, ⟨12, _⟩ => ⟨S_, .i32⟩
  | .hbm, ⟨13, _⟩ => ⟨S32x544, .i32⟩
  | .hbm, ⟨14, _⟩ => ⟨S32x544, .i32⟩
  | .hbm, ⟨15, _⟩ => ⟨S32x544, .i32⟩
  | .hbm, ⟨16, _⟩ => ⟨S32x544x1, .i32⟩
  | .hbm, ⟨17, _⟩ => ⟨S4x32x544, .f32⟩
  | .hbm, ⟨18, _⟩ => ⟨S16x32x256, .f32⟩
  | .local _ .vmem, ⟨0, _⟩ => ⟨S1x32x256, .f32⟩
  | .local _ .vmem, ⟨1, _⟩ => ⟨S1x32x256, .f32⟩
  | .local _ .vmem, ⟨2, _⟩ => ⟨S1x544x256, .f32⟩
  | .local _ .vmem, ⟨3, _⟩ => ⟨S1x544x256, .f32⟩
  | .local _ .vmem, ⟨4, _⟩ => ⟨S1x544x256, .f32⟩
  | .local _ .vmem, ⟨5, _⟩ => ⟨S1x544x256, .f32⟩
  | .local _ .vmem, ⟨6, _⟩ => ⟨S4x32x544, .f32⟩
  | .local _ .vmem, ⟨7, _⟩ => ⟨S1x32x256, .f32⟩
  | .local _ .vmem, ⟨8, _⟩ => ⟨S1x32x256, .f32⟩
  | _, _ => ⟨S16x32x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c12_i32 : BitVec 32 := 12#32
  let c0_i32_0 : BitVec 32 := 0#32
  ![arg0.toNat, c0_i32.toNat, c12_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x32x544 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== StepRefIdeal.lean ====
abbrev S16x32x6912 : Shape := ⟨3, ![16, 32, 6912]⟩
abbrev S16x512x4x64 : Shape := ⟨4, ![16, 512, 4, 64]⟩
abbrev S4x257 : Shape := ⟨2, ![4, 257]⟩
abbrev S16x32x768 : Shape := ⟨3, ![16, 32, 768]⟩
abbrev S16x32x256 : Shape := ⟨3, ![16, 32, 256]⟩
abbrev S16x32x4x64 : Shape := ⟨4, ![16, 32, 4, 64]⟩
abbrev S16x544x4x64 : Shape := ⟨4, ![16, 544, 4, 64]⟩
abbrev S32 : Shape := ⟨1, ![32]⟩
abbrev S_ : Shape := ⟨0, ![]⟩
abbrev S544 : Shape := ⟨1, ![544]⟩
abbrev S16x4x32x544 : Shape := ⟨4, ![16, 4, 32, 544]⟩
abbrev S32x1 : Shape := ⟨2, ![32, 1]⟩
abbrev S1x544 : Shape := ⟨2, ![1, 544]⟩
abbrev S32x544 : Shape := ⟨2, ![32, 544]⟩
abbrev S32x544x1 : Shape := ⟨3, ![32, 544, 1]⟩
abbrev S4x32x544 : Shape := ⟨3, ![4, 32, 544]⟩
abbrev S1x4x32x544 : Shape := ⟨4, ![1, 4, 32, 544]⟩
abbrev S16x4x32 : Shape := ⟨3, ![16, 4, 32]⟩
abbrev S16x4x32x1 : Shape := ⟨4, ![16, 4, 32, 1]⟩
abbrev S16x4x64x32 : Shape := ⟨4, ![16, 4, 64, 32]⟩

abbrev nBuf : Space → Nat
  | .hbm => 70
  | .vmem => 0
  | .smem => 0
  | _ => 0

abbrev bufTy : (tb : Table) → Fin (tcTables nBuf tb) → BufTy
  | .hbm, ⟨0, _⟩ => ⟨S16x32x6912, .f32⟩
  | .hbm, ⟨1, _⟩ => ⟨S16x512x4x64, .f32⟩
  | .hbm, ⟨2, _⟩ => ⟨S16x512x4x64, .f32⟩
  | .hbm, ⟨3, _⟩ => ⟨S4x257, .f32⟩
  | .hbm, ⟨4, _⟩ => ⟨S16x32x768, .f32⟩
  | .hbm, ⟨5, _⟩ => ⟨S16x32x256, .f32⟩
  | .hbm, ⟨6, _⟩ => ⟨S16x32x256, .f32⟩
  | .hbm, ⟨7, _⟩ => ⟨S16x32x256, .f32⟩
  | .hbm, ⟨8, _⟩ => ⟨S16x32x4x64, .f32⟩
  | .hbm, ⟨9, _⟩ => ⟨S16x32x4x64, .f32⟩
  | .hbm, ⟨10, _⟩ => ⟨S16x32x4x64, .f32⟩
  | .hbm, ⟨11, _⟩ => ⟨S16x544x4x64, .f32⟩
  | .hbm, ⟨12, _⟩ => ⟨S16x544x4x64, .f32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S544, .i32⟩
  | .hbm, ⟨18, _⟩ => ⟨S_, .i32⟩
  | .hbm, ⟨19, _⟩ => ⟨S544, .i32⟩
  | .hbm, ⟨20, _⟩ => ⟨S544, .i32⟩
  | .hbm, ⟨21, _⟩ => ⟨S16x4x32x544, .f32⟩
  | .hbm, ⟨22, _⟩ => ⟨S_, .f32⟩
  | .hbm, ⟨23, _⟩ => ⟨S16x4x32x544, .f32⟩
  | .hbm, ⟨24, _⟩ => ⟨S16x4x32x544, .f32⟩
  | .hbm, ⟨25, _⟩ => ⟨S32x1, .i32⟩
  | .hbm, ⟨26, _⟩ => ⟨S1x544, .i32⟩
  | .hbm, ⟨27, _⟩ => ⟨S32x544, .i32⟩
  | .hbm, ⟨28, _⟩ => ⟨S32x544, .i32⟩
  | .hbm, ⟨29, _⟩ => ⟨S32x544, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S32x544, .i32⟩
  | .hbm, ⟨34, _⟩ => ⟨S32x544, .i32⟩
  | .hbm, ⟨35, _⟩ => ⟨S_, .i32⟩
  | .hbm, ⟨36, _⟩ => ⟨S32x544, .i32⟩
  | .hbm, ⟨37, _⟩ => ⟨S32x544, .i32⟩
  | .hbm, ⟨38, _⟩ => ⟨S_, .i32⟩
  | .hbm, ⟨39, _⟩ => ⟨S32x544, .i32⟩
  | .hbm, ⟨40, _⟩ => ⟨S32x544, .i32⟩
  | .hbm, ⟨41, _⟩ => ⟨S_, .i32⟩
  | .hbm, ⟨42, _⟩ => ⟨S32x544, .i32⟩
  | .hbm, ⟨43, _⟩ => ⟨S32x544, .i1⟩
  | .hbm, ⟨44, _⟩ => ⟨S_, .i32⟩
  | .hbm, ⟨45, _⟩ => ⟨S32x544, .i32⟩
  | .hbm, ⟨46, _⟩ => ⟨S32x544, .i32⟩
  | .hbm, ⟨47, _⟩ => ⟨S32x544, .i32⟩
  | .hbm, ⟨48, _⟩ => ⟨S32x544x1, .i32⟩
  | .hbm, ⟨49, _⟩ => ⟨S4x32x544, .f32⟩
  | .hbm, ⟨50, _⟩ => ⟨S1x4x32x544, .f32⟩
  | .hbm, ⟨51, _⟩ => ⟨S16x4x32x544, .f32⟩
  | .hbm, ⟨52, _⟩ => ⟨S16x4x32x544, .f32⟩
  | .hbm, ⟨53, _⟩ => ⟨S_, .f32⟩
  | .hbm, ⟨54, _⟩ => ⟨S16x4x32, .f32⟩
  | .hbm, ⟨55, _⟩ => ⟨S_, .f32⟩
  | .hbm, ⟨56, _⟩ => ⟨S16x4x32, .f32⟩
  | .hbm, ⟨57, _⟩ => ⟨S16x4x32, .f32⟩
  | .hbm, ⟨58, _⟩ => ⟨S16x4x32x1, .f32⟩
  | .hbm, ⟨59, _⟩ => ⟨S16x4x32x544, .f32⟩
  | .hbm, ⟨60, _⟩ => ⟨S16x4x32x544, .f32⟩
  | .hbm, ⟨61, _⟩ => ⟨S16x4x32x544, .f32⟩
  | .hbm, ⟨62, _⟩ => ⟨S_, .f32⟩
  | .hbm, ⟨63, _⟩ => ⟨S16x4x32, .f32⟩
  | .hbm, ⟨64, _⟩ => ⟨S16x4x32x1, .f32⟩
  | .hbm, ⟨65, _⟩ => ⟨S16x4x32x544, .f32⟩
  | .hbm, ⟨66, _⟩ => ⟨S16x4x32x544, .f32⟩
  | .hbm, ⟨67, _⟩ => ⟨S16x4x64x32, .f32⟩
  | .hbm, ⟨68, _⟩ => ⟨S16x32x4x64, .f32⟩
  | .hbm, ⟨69, _⟩ => ⟨S16x32x256, .f32⟩
  | _, _ => ⟨S16x32x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Proj.lean ====
abbrev S65536x1024 : Shape := ⟨2, ![65536, 1024]⟩
abbrev S1024 : Shape := ⟨1, ![1024]⟩
abbrev S1024x6796 : Shape := ⟨2, ![1024, 6796]⟩
abbrev S1024x12 : Shape := ⟨2, ![1024, 12]⟩
abbrev S_ : Shape := ⟨0, ![]⟩
abbrev S1024x128 : Shape := ⟨2, ![1024, 128]⟩
abbrev S1024x3072 : Shape := ⟨2, ![1024, 3072]⟩
abbrev S1024x768 : Shape := ⟨2, ![1024, 768]⟩
abbrev S1024x384 : Shape := ⟨2, ![1024, 384]⟩
abbrev S1024x1408 : Shape := ⟨2, ![1024, 1408]⟩
abbrev S1024x1152 : Shape := ⟨2, ![1024, 1152]⟩
abbrev S1024x6912 : Shape := ⟨2, ![1024, 6912]⟩
abbrev S1x1024 : Shape := ⟨2, ![1, 1024]⟩
abbrev S65536x6912 : Shape := ⟨2, ![65536, 6912]⟩
abbrev S256x1024 : Shape := ⟨2, ![256, 1024]⟩
abbrev S256x6912 : Shape := ⟨2, ![256, 6912]⟩
abbrev S256 : Shape := ⟨1, ![256]⟩
abbrev S256x1 : Shape := ⟨2, ![256, 1]⟩
abbrev S256x768 : Shape := ⟨2, ![256, 768]⟩
abbrev S32x2048x6912 : Shape := ⟨3, ![32, 2048, 6912]⟩
abbrev S32x2048x256 : Shape := ⟨3, ![32, 2048, 256]⟩
abbrev S32x512x256 : Shape := ⟨3, ![32, 512, 256]⟩
abbrev S32x1x1408 : Shape := ⟨3, ![32, 1, 1408]⟩
abbrev S32x1408 : Shape := ⟨2, ![32, 1408]⟩
abbrev S32x3x1152 : Shape := ⟨3, ![32, 3, 1152]⟩
abbrev S32x512x4x64 : Shape := ⟨4, ![32, 512, 4, 64]⟩

abbrev nBuf : Space → Nat
  | .hbm => 26
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6796, .f32⟩
  | .hbm, ⟨3, _⟩ => ⟨S1024x12, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x3072, .f32⟩
  | .hbm, ⟨8, _⟩ => ⟨S1024x768, .f32⟩
  | .hbm, ⟨9, _⟩ => ⟨S1024x384, .f32⟩
  | .hbm, ⟨10, _⟩ => ⟨S1024x1408, .f32⟩
  | .hbm, ⟨11, _⟩ => ⟨S1024x1152, .f32⟩
  | .hbm, ⟨12, _⟩ => ⟨S1024x6912, .f32⟩
  | .hbm, ⟨13, _⟩ => ⟨S1024x6912, .bf16⟩
  | .hbm, ⟨14, _⟩ => ⟨S1x1024, .f32⟩
  | .hbm, ⟨15, _⟩ => ⟨S65536x6912, .f32⟩
  | .hbm, ⟨16, _⟩ => ⟨S32x2048x6912, .f32⟩
  | .hbm, ⟨17, _⟩ => ⟨S32x2048x256, .f32⟩
  | .hbm, ⟨18, _⟩ => ⟨S32x2048x256, .f32⟩
  | .hbm, ⟨19, _⟩ => ⟨S32x512x256, .f32⟩
  | .hbm, ⟨20, _⟩ => ⟨S32x512x256, .f32⟩
  | .hbm, ⟨21, _⟩ => ⟨S32x1x1408, .f32⟩
  | .hbm, ⟨22, _⟩ => ⟨S32x1408, .f32⟩
  | .hbm, ⟨23, _⟩ => ⟨S32x3x1152, .f32⟩
  | .hbm, ⟨24, _⟩ => ⟨S32x512x4x64, .f32⟩
  | .hbm, ⟨25, _⟩ => ⟨S32x512x4x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6912, .bf16⟩
  | .local _ .vmem, ⟨4, _⟩ => ⟨S256x6912, .f32⟩
  | .local _ .vmem, ⟨5, _⟩ => ⟨S256x6912, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6912 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S65536x1024 : Shape := ⟨2, ![65536, 1024]⟩
abbrev S1024 : Shape := ⟨1, ![1024]⟩
abbrev S1024x6796 : Shape := ⟨2, ![1024, 6796]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x6796 : Shape := ⟨2, ![65536, 6796]⟩
abbrev S65536x1408 : Shape := ⟨2, ![65536, 1408]⟩
abbrev S65536x1152 : Shape := ⟨2, ![65536, 1152]⟩
abbrev S65536x12 : Shape := ⟨2, ![65536, 12]⟩
abbrev S65536x384 : Shape := ⟨2, ![65536, 384]⟩
abbrev S65536x768 : Shape := ⟨2, ![65536, 768]⟩
abbrev S65536x3072 : Shape := ⟨2, ![65536, 3072]⟩
abbrev S65536x116 : Shape := ⟨2, ![65536, 116]⟩
abbrev S65536x6912 : Shape := ⟨2, ![65536, 6912]⟩
abbrev S65536x256 : Shape := ⟨2, ![65536, 256]⟩
abbrev S32x2048x4x64 : Shape := ⟨4, ![32, 2048, 4, 64]⟩
abbrev S32x3x1152 : Shape := ⟨3, ![32, 3, 1152]⟩
abbrev S32x2048x1152 : Shape := ⟨3, ![32, 2048, 1152]⟩
abbrev S32x2051x1152 : Shape := ⟨3, ![32, 2051, 1152]⟩
abbrev S32x2048x1408 : Shape := ⟨3, ![32, 2048, 1408]⟩
abbrev S32x1x1408 : Shape := ⟨3, ![32, 1, 1408]⟩
abbrev S32x1408 : Shape := ⟨2, ![32, 1408]⟩
abbrev S32x512x4x64 : Shape := ⟨4, ![32, 512, 4, 64]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6796, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x6796, .f32⟩
  | .hbm, ⟨20, _⟩ => ⟨S65536x1408, .f32⟩
  | .hbm, ⟨21, _⟩ => ⟨S65536x1152, .f32⟩
  | .hbm, ⟨22, _⟩ => ⟨S65536x12, .f32⟩
  | .hbm, ⟨23, _⟩ => ⟨S65536x384, .f32⟩
  | .hbm, ⟨24, _⟩ => ⟨S65536x768, .f32⟩
  | .hbm, ⟨25, _⟩ => ⟨S65536x3072, .f32⟩
  | .hbm, ⟨26, _⟩ => ⟨S_, .f32⟩
  | .hbm, ⟨27, _⟩ => ⟨S65536x116, .f32⟩
  | .hbm, ⟨28, _⟩ => ⟨S65536x6912, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S32x2048x4x64, .f32⟩
  | .hbm, ⟨33, _⟩ => ⟨S32x2048x4x64, .f32⟩
  | .hbm, ⟨34, _⟩ => ⟨S32x2048x4x64, .f32⟩
  | .hbm, ⟨35, _⟩ => ⟨S_, .f32⟩
  | .hbm, ⟨36, _⟩ => ⟨S32x3x1152, .f32⟩
  | .hbm, ⟨37, _⟩ => ⟨S32x2048x1152, .f32⟩
  | .hbm, ⟨38, _⟩ => ⟨S32x2051x1152, .f32⟩
  | .hbm, ⟨39, _⟩ => ⟨S32x2048x1408, .f32⟩
  | .hbm, ⟨40, _⟩ => ⟨S32x1x1408, .f32⟩
  | .hbm, ⟨41, _⟩ => ⟨S32x1408, .f32⟩
  | .hbm, ⟨42, _⟩ => ⟨S32x3x1152, .f32⟩
  | .hbm, ⟨43, _⟩ => ⟨S32x512x4x64, .f32⟩
  | .hbm, ⟨44, _⟩ => ⟨S32x512x4x64, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Sample.lean ====
abbrev S512x1024 : Shape := ⟨2, ![512, 1024]⟩
abbrev S1024 : Shape := ⟨1, ![1024]⟩
abbrev S1024x6796 : Shape := ⟨2, ![1024, 6796]⟩
abbrev S16x3x1152 : Shape := ⟨3, ![16, 3, 1152]⟩
abbrev S1024x12 : Shape := ⟨2, ![1024, 12]⟩
abbrev S_ : Shape := ⟨0, ![]⟩
abbrev S1024x128 : Shape := ⟨2, ![1024, 128]⟩
abbrev S1024x3072 : Shape := ⟨2, ![1024, 3072]⟩
abbrev S1024x768 : Shape := ⟨2, ![1024, 768]⟩
abbrev S1024x384 : Shape := ⟨2, ![1024, 384]⟩
abbrev S1024x1408 : Shape := ⟨2, ![1024, 1408]⟩
abbrev S1024x1152 : Shape := ⟨2, ![1024, 1152]⟩
abbrev S1024x6912 : Shape := ⟨2, ![1024, 6912]⟩
abbrev S1x1024 : Shape := ⟨2, ![1, 1024]⟩
abbrev S512x6912 : Shape := ⟨2, ![512, 6912]⟩
abbrev S256x1024 : Shape := ⟨2, ![256, 1024]⟩
abbrev S256x6912 : Shape := ⟨2, ![256, 6912]⟩
abbrev S256 : Shape := ⟨1, ![256]⟩
abbrev S256x1 : Shape := ⟨2, ![256, 1]⟩
abbrev S256x768 : Shape := ⟨2, ![256, 768]⟩
abbrev S16x32x6912 : Shape := ⟨3, ![16, 32, 6912]⟩
abbrev S16x32x256 : Shape := ⟨3, ![16, 32, 256]⟩
abbrev S16x1x1408 : Shape := ⟨3, ![16, 1, 1408]⟩
abbrev S16x1408 : Shape := ⟨2, ![16, 1408]⟩
abbrev S16x32x4x64 : Shape := ⟨4, ![16, 32, 4, 64]⟩

abbrev nBuf : Space → Nat
  | .hbm => 25
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x6796, .f32⟩
  | .hbm, ⟨3, _⟩ => ⟨S16x3x1152, .f32⟩
  | .hbm, ⟨4, _⟩ => ⟨S1024x12, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x3072, .f32⟩
  | .hbm, ⟨9, _⟩ => ⟨S1024x768, .f32⟩
  | .hbm, ⟨10, _⟩ => ⟨S1024x384, .f32⟩
  | .hbm, ⟨11, _⟩ => ⟨S1024x1408, .f32⟩
  | .hbm, ⟨12, _⟩ => ⟨S1024x1152, .f32⟩
  | .hbm, ⟨13, _⟩ => ⟨S1024x6912, .f32⟩
  | .hbm, ⟨14, _⟩ => ⟨S1024x6912, .bf16⟩
  | .hbm, ⟨15, _⟩ => ⟨S1x1024, .f32⟩
  | .hbm, ⟨16, _⟩ => ⟨S512x6912, .f32⟩
  | .hbm, ⟨17, _⟩ => ⟨S16x32x6912, .f32⟩
  | .hbm, ⟨18, _⟩ => ⟨S16x32x256, .f32⟩
  | .hbm, ⟨19, _⟩ => ⟨S16x32x256, .f32⟩
  | .hbm, ⟨20, _⟩ => ⟨S16x1x1408, .f32⟩
  | .hbm, ⟨21, _⟩ => ⟨S16x1408, .f32⟩
  | .hbm, ⟨22, _⟩ => ⟨S16x3x1152, .f32⟩
  | .hbm, ⟨23, _⟩ => ⟨S16x32x4x64, .f32⟩
  | .hbm, ⟨24, _⟩ => ⟨S16x32x4x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6912, .bf16⟩
  | .local _ .vmem, ⟨4, _⟩ => ⟨S256x6912, .f32⟩
  | .local _ .vmem, ⟨5, _⟩ => ⟨S256x6912, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6912 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SampleRefIdeal.lean ====
abbrev S512x1024 : Shape := ⟨2, ![512, 1024]⟩
abbrev S1024 : Shape := ⟨1, ![1024]⟩
abbrev S1024x6796 : Shape := ⟨2, ![1024, 6796]⟩
abbrev S16x3x1152 : Shape := ⟨3, ![16, 3, 1152]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x6796 : Shape := ⟨2, ![512, 6796]⟩
abbrev S512x1408 : Shape := ⟨2, ![512, 1408]⟩
abbrev S512x1152 : Shape := ⟨2, ![512, 1152]⟩
abbrev S512x12 : Shape := ⟨2, ![512, 12]⟩
abbrev S512x384 : Shape := ⟨2, ![512, 384]⟩
abbrev S512x768 : Shape := ⟨2, ![512, 768]⟩
abbrev S512x3072 : Shape := ⟨2, ![512, 3072]⟩
abbrev S512x116 : Shape := ⟨2, ![512, 116]⟩
abbrev S512x6912 : Shape := ⟨2, ![512, 6912]⟩
abbrev S512x256 : Shape := ⟨2, ![512, 256]⟩
abbrev S16x32x4x64 : Shape := ⟨4, ![16, 32, 4, 64]⟩
abbrev S16x32x1152 : Shape := ⟨3, ![16, 32, 1152]⟩
abbrev S16x35x1152 : Shape := ⟨3, ![16, 35, 1152]⟩
abbrev S16x32x1408 : Shape := ⟨3, ![16, 32, 1408]⟩
abbrev S16x1x1408 : Shape := ⟨3, ![16, 1, 1408]⟩
abbrev S16x1408 : Shape := ⟨2, ![16, 1408]⟩

abbrev nBuf : Space → Nat
  | .hbm => 42
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x6796, .f32⟩
  | .hbm, ⟨3, _⟩ => ⟨S16x3x1152, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x6796, .f32⟩
  | .hbm, ⟨21, _⟩ => ⟨S512x1408, .f32⟩
  | .hbm, ⟨22, _⟩ => ⟨S512x1152, .f32⟩
  | .hbm, ⟨23, _⟩ => ⟨S512x12, .f32⟩
  | .hbm, ⟨24, _⟩ => ⟨S512x384, .f32⟩
  | .hbm, ⟨25, _⟩ => ⟨S512x768, .f32⟩
  | .hbm, ⟨26, _⟩ => ⟨S512x3072, .f32⟩
  | .hbm, ⟨27, _⟩ => ⟨S_, .f32⟩
  | .hbm, ⟨28, _⟩ => ⟨S512x116, .f32⟩
  | .hbm, ⟨29, _⟩ => ⟨S512x6912, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S16x32x4x64, .f32⟩
  | .hbm, ⟨34, _⟩ => ⟨S16x32x4x64, .f32⟩
  | .hbm, ⟨35, _⟩ => ⟨S16x32x4x64, .f32⟩
  | .hbm, ⟨36, _⟩ => ⟨S16x32x1152, .f32⟩
  | .hbm, ⟨37, _⟩ => ⟨S16x35x1152, .f32⟩
  | .hbm, ⟨38, _⟩ => ⟨S16x32x1408, .f32⟩
  | .hbm, ⟨39, _⟩ => ⟨S16x1x1408, .f32⟩
  | .hbm, ⟨40, _⟩ => ⟨S16x1408, .f32⟩
  | .hbm, ⟨41, _⟩ => ⟨S16x3x1152, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Merge.lean ====
abbrev S65536x1024 : Shape := ⟨2, ![65536, 1024]⟩
abbrev S65536x384 : Shape := ⟨2, ![65536, 384]⟩
abbrev S65536x256 : Shape := ⟨2, ![65536, 256]⟩
abbrev S65536x6912 : Shape := ⟨2, ![65536, 6912]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 21
  | .smem => 0
  | _ => 0

abbrev bufTy : (tb : Table) → Fin (tcTables nBuf tb) → BufTy
  | .hbm, ⟨0, _⟩ => ⟨S65536x1024, .f32⟩
  | .hbm, ⟨1, _⟩ => ⟨S65536x384, .f32⟩
  | .hbm, ⟨2, _⟩ => ⟨S65536x384, .f32⟩
  | .hbm, ⟨3, _⟩ => ⟨S65536x256, .f32⟩
  | .hbm, ⟨4, _⟩ => ⟨S65536x6912, .f32⟩
  | .hbm, ⟨5, _⟩ => ⟨S384x1024, .f32⟩
  | .hbm, ⟨6, _⟩ => ⟨S384x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S384x1024, .bf16⟩
  | .hbm, ⟨11, _⟩ => ⟨S384x1024, .bf16⟩
  | .hbm, ⟨12, _⟩ => ⟨S256x1024, .bf16⟩
  | .hbm, ⟨13, _⟩ => ⟨S1024x1024, .bf16⟩
  | .hbm, ⟨14, _⟩ => ⟨S1x1024, .f32⟩
  | .hbm, ⟨15, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S384x1024, .bf16⟩
  | .local _ .vmem, ⟨15, _⟩ => ⟨S384x1024, .bf16⟩
  | .local _ .vmem, ⟨16, _⟩ => ⟨S256x1024, .bf16⟩
  | .local _ .vmem, ⟨17, _⟩ => ⟨S1024x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S65536x1024 : Shape := ⟨2, ![65536, 1024]⟩
abbrev S65536x384 : Shape := ⟨2, ![65536, 384]⟩
abbrev S65536x256 : Shape := ⟨2, ![65536, 256]⟩
abbrev S65536x6912 : Shape := ⟨2, ![65536, 6912]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S65536x3072 : Shape := ⟨2, ![65536, 3072]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x384, .f32⟩
  | .hbm, ⟨2, _⟩ => ⟨S65536x384, .f32⟩
  | .hbm, ⟨3, _⟩ => ⟨S65536x256, .f32⟩
  | .hbm, ⟨4, _⟩ => ⟨S65536x6912, .f32⟩
  | .hbm, ⟨5, _⟩ => ⟨S384x1024, .f32⟩
  | .hbm, ⟨6, _⟩ => ⟨S384x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S65536x3072, .f32⟩
  | .hbm, ⟨11, _⟩ => ⟨S65536x3072, .f32⟩
  | .hbm, ⟨12, _⟩ => ⟨S65536x3072, .f32⟩
  | .hbm, ⟨13, _⟩ => ⟨S_, .f32⟩
  | .hbm, ⟨14, _⟩ => ⟨S65536x3072, .f32⟩
  | .hbm, ⟨15, _⟩ => ⟨S65536x3072, .f32⟩
  | .hbm, ⟨16, _⟩ => ⟨S_, .f32⟩
  | .hbm, ⟨17, _⟩ => ⟨S65536x3072, .f32⟩
  | .hbm, ⟨18, _⟩ => ⟨S65536x3072, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1, .f32⟩
  | .hbm, ⟨42, _⟩ => ⟨S65536x1024, .f32⟩
  | .hbm, ⟨43, _⟩ => ⟨S65536x1024, .f32⟩
  | .hbm, ⟨44, _⟩ => ⟨S1x1024, .f32⟩
  | .hbm, ⟨45, _⟩ => ⟨S65536x1024, .f32⟩
  | .hbm, ⟨46, _⟩ => ⟨S65536x1024, .f32⟩
  | .hbm, ⟨47, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Ffn.lean ====
abbrev S65536x1024 : Shape := ⟨2, ![65536, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S65536x1024 : Shape := ⟨2, ![65536, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 44
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x4096, .f32⟩
  | .hbm, ⟨22, _⟩ => ⟨S_, .f32⟩
  | .hbm, ⟨23, _⟩ => ⟨S65536x4096, .f32⟩
  | .hbm, ⟨24, _⟩ => ⟨S65536x4096, .f32⟩
  | .hbm, ⟨25, _⟩ => ⟨S65536x4096, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | .hbm, ⟨43, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Proof.AttnQuiet.lean ====
/-
  The two attention references end, with their arguments unchanged and every counter at zero.
-/
module
public import proofs.«01_k».proof.Defs
public import proofs.«01_k».proof.Proof.Gen.BandRefIdeal
public import proofs.«01_k».proof.Proof.Gen.BandRefIdeal.Run
public import proofs.«01_k».proof.Proof.Gen.StepRefIdeal
public import proofs.«01_k».proof.Proof.Gen.StepRefIdeal.Run
public import proofs.«01_k».proof.Proof.Gen.Pre_band_finite
public import proofs.«01_k».proof.Proof.Gen.Pre_step_finite
public import Idealize.ShloMosaic.Lib.Claim
public import Idealize.ShloMosaic.Lib.Quiescent
@[expose] public section
noncomputable section
namespace Cert.AttnQ
open Idealize.ShloMosaic Idealize.ShloMosaic.TcCoe

/-- The prompt attention's reference ends with its arguments unchanged and every counter at zero. -/
theorem band : Cert.quiescent_BandRefIdeal := by
  intro m g _
  refine θ_run_mono (Cert.BandRefIdeal.Value.run m g) fun r h => ⟨fun c => (h c).2, ?_⟩
  exact sem_eq_zero_of_no_sems (by decide) r.2

/-- The prompt attention's reference ends with its arguments unchanged and every counter at zero, under the precondition. -/
theorem band_pre : Cert.quiescent_BandRefIdeal_pre_band_finite := by
  intro m g _
  refine θ_run_mono (Cert.BandRefIdeal.Value.run m g) fun r h => ⟨fun c => (h c).2, ?_⟩
  exact sem_eq_zero_of_no_sems (by decide) r.2

/-- The step attention's reference ends with its arguments unchanged and every counter at zero. -/
theorem step : Cert.quiescent_StepRefIdeal := by
  intro m g _
  refine θ_run_mono (Cert.StepRefIdeal.Value.run m g) fun r h => ⟨fun c => (h c).2, ?_⟩
  exact sem_eq_zero_of_no_sems (by decide) r.2

/-- The step attention's reference ends with its arguments unchanged and every counter at zero, under the precondition. -/
theorem step_pre : Cert.quiescent_StepRefIdeal_pre_step_finite := by
  intro m g _
  refine θ_run_mono (Cert.StepRefIdeal.Value.run m g) fun r h => ⟨fun c => (h c).2, ?_⟩
  exact sem_eq_zero_of_no_sems (by decide) r.2

end Cert.AttnQ
-- ==== Proof.Attend.lean ====
/-
  Attention of one query over a set of keys, as the kernels and the references spell it.
-/
module
public import Idealize.ShloMosaic.PureOps.Ideal
public import Mathlib.Data.EReal.Operations
public import Mathlib.Data.Finset.Fold
public import Mathlib.Algebra.BigOperators.Group.Finset.Basic
public import Mathlib.Analysis.SpecialFunctions.Exp
@[expose] public section
noncomputable section
namespace Cert.Rows
open Idealize.ShloMosaic

/-- The literal of minus infinity. -/
abbrev low : EReal := Ideal.ofBits .f32 4286578688#32

/-- The largest of a row of scores, started at minus infinity. -/
def top {n : Nat} (s : Fin n → EReal) : EReal := Finset.fold max low s Finset.univ

/-- The unnormalized weight of one key. -/
def weight {n : Nat} (s : Fin n → EReal) (k : Fin n) : EReal := Ideal.exp (s k - top s)

/-- The weighted values over the weights' sum. -/
def attend {n : Nat} (s v : Fin n → EReal) : EReal :=
  Ideal.div (∑ k, weight s k * v k) (∑ k, weight s k)

/-- The score of one key: the scaled product with the query plus the bias. -/
def score (q k : Fin 64 → EReal) (b : EReal) : EReal := (∑ x, q x * k x) * Ideal.ofBits .f32 1040187392#32 + b

theorem low_eq : low = ⊥ := by simp [low, Ideal.ofBits, Ideal.ieee]

theorem top_eq {n : Nat} (s : Fin n → EReal) : top s = Finset.univ.sup s := by
  unfold top; rw [low_eq]; rfl

/-- A row whose scores are reals or minus infinity, with at least one real. -/
def Fit {n : Nat} (s : Fin n → EReal) : Prop := (∀ k, s k ≠ ⊤) ∧ ∃ k, s k ≠ ⊥

theorem top_real {n : Nat} {s : Fin n → EReal} (h : Fit s) : ∃ r : ℝ, top s = r := by
  obtain ⟨h1, k, hk⟩ := h
  have hb : top s ≠ ⊥ := by
    rw [top_eq]; intro e
    exact hk (le_bot_iff.1 (e ▸ Finset.le_sup (f := s) (Finset.mem_univ k)))
  have ht : top s ≠ ⊤ := by
    rw [top_eq]
    exact ((Finset.sup_lt_iff (by exact bot_lt_top)).2 fun k _ => lt_top_iff_ne_top.2 (h1 k)).ne
  exact ⟨(top s).toReal, (EReal.coe_toReal ht hb).symm⟩

/-- Each weight is a nonnegative real. -/
theorem weight_real {n : Nat} {s : Fin n → EReal} (h : Fit s) (k : Fin n) : ∃ r : ℝ, 0 ≤ r ∧ weight s k = r := by
  obtain ⟨t, ht⟩ := top_real h
  unfold weight; rw [ht]
  rcases eq_or_ne (s k) ⊥ with e | e
  · refine ⟨0, le_refl _, ?_⟩
    rw [e, EReal.bot_sub]; rfl
  · lift s k to ℝ using ⟨h.1 k, e⟩ with a
    exact ⟨Real.exp (a - t), (Real.exp_pos _).le, by rw [← EReal.coe_sub]; rfl⟩

theorem weight_pos {n : Nat} {s : Fin n → EReal} (h : Fit s) {k : Fin n} (hk : s k ≠ ⊥) : 0 < weight s k := by
  obtain ⟨t, ht⟩ := top_real h
  unfold weight; rw [ht]
  lift s k to ℝ using ⟨h.1 k, hk⟩ with a
  rw [← EReal.coe_sub]
  show (0 : EReal) < ((Real.exp (a - t) : ℝ) : EReal)
  exact_mod_cast Real.exp_pos _

/-- A masked key carries no weight. -/
theorem weight_bot {n : Nat} {s : Fin n → EReal} (h : Fit s) {k : Fin n} (hk : s k = ⊥) : weight s k = 0 := by
  obtain ⟨t, ht⟩ := top_real h
  unfold weight; rw [ht, hk, EReal.bot_sub]; rfl

/-- The weights' sum is a positive real. -/
theorem total_real {n : Nat} {s : Fin n → EReal} (h : Fit s) : ∃ r : ℝ, 0 < r ∧ (∑ k, weight s k) = r := by
  choose w hw0 hw using weight_real h
  obtain ⟨k, hk⟩ := h.2
  refine ⟨∑ k, w k, ?_, ?_⟩
  · refine Finset.sum_pos' (fun k _ => hw0 k) ⟨k, Finset.mem_univ k, ?_⟩
    have := weight_pos h hk
    rw [hw k] at this
    exact_mod_cast this
  · simp only [hw]
    induction (Finset.univ : Finset (Fin n)) using Finset.cons_induction with
    | empty => simp
    | cons a s ha ih => rw [Finset.sum_cons, Finset.sum_cons, ih, EReal.coe_add]

/-- A nonnegative real factor goes through a sum. -/
theorem sum_mul_pos {ι : Type} (s : Finset ι) (f : ι → EReal) (r : ℝ) (hr : 0 ≤ r) :
    (∑ k ∈ s, f k) * (r : EReal) = ∑ k ∈ s, f k * (r : EReal) := by
  induction s using Finset.cons_induction with
  | empty => simp
  | cons a s ha ih =>
    rw [Finset.sum_cons, Finset.sum_cons, ← ih]
    exact EReal.right_distrib_of_nonneg_of_ne_top (by exact_mod_cast hr) (EReal.coe_ne_top r) _ _

/-- The kernel's quotient of sums is the reference's sum of quotients. -/
theorem attend_eq {n : Nat} {s : Fin n → EReal} (h : Fit s) (v : Fin n → EReal) :
    attend s v = ∑ k, v k * Ideal.div (weight s k) (∑ k, weight s k) := by
  obtain ⟨d, hd0, hd⟩ := total_real h
  unfold attend
  rw [hd]
  have hne : (d : EReal) ≠ 0 := by exact_mod_cast hd0.ne'
  unfold Ideal.div
  simp only [if_neg hne]
  rw [← EReal.coe_inv, sum_mul_pos _ _ _ (inv_nonneg.2 hd0.le)]
  refine Finset.sum_congr rfl fun k _ => ?_
  rw [mul_comm (weight s k) (v k), mul_assoc]

/-- A window of the keys that holds every unmasked key attends as the whole row does. -/
theorem attend_window {m n : Nat} {s' v' : Fin m → EReal} {s v : Fin n → EReal} (e : Fin m → Fin n)
    (hf : Fit s') (hs : ∀ c, s' c ≠ ⊥ → s (e c) = s' c ∧ v (e c) = v' c)
    (hk : ∀ k, s k ≠ ⊥ → ∃ c, e c = k ∧ s' c = s k)
    (hi : ∀ c c', s' c ≠ ⊥ → s' c' ≠ ⊥ → e c = e c' → c = c') :
    Fit s ∧ attend s' v' = attend s v := by
  have hfs : Fit s := by
    refine ⟨fun k e0 => ?_, ?_⟩
    · obtain ⟨c, _, h⟩ := hk k (by rw [e0]; exact bot_lt_top.ne')
      exact hf.1 c (h.trans e0)
    · obtain ⟨c, hc⟩ := hf.2
      exact ⟨e c, by rw [(hs c hc).1]; exact hc⟩
  have ht : top s' = top s := by
    rw [top_eq, top_eq]
    refine le_antisymm (Finset.sup_le fun c _ => ?_) (Finset.sup_le fun k _ => ?_)
    · rcases eq_or_ne (s' c) ⊥ with h | h
      · rw [h]; exact bot_le
      · rw [← (hs c h).1]; exact Finset.le_sup (f := s) (Finset.mem_univ _)
    · rcases eq_or_ne (s k) ⊥ with h | h
      · rw [h]; exact bot_le
      · obtain ⟨c, _, hc⟩ := hk k h
        rw [← hc]; exact Finset.le_sup (f := s') (Finset.mem_univ _)
  have hw : ∀ c, s' c ≠ ⊥ → weight s (e c) = weight s' c := fun c h => by
    unfold weight; rw [ht, (hs c h).1]
  have hne' : ∀ c, weight s' c ≠ 0 → s' c ≠ ⊥ := fun c h hb => h (weight_bot hf hb)
  have hne : ∀ c, weight s c ≠ 0 → s c ≠ ⊥ := fun c h hb => h (weight_bot hfs hb)
  have key : ∀ (g' : Fin m → EReal) (g : Fin n → EReal), (∀ c, s' c ≠ ⊥ → g (e c) = g' c) →
      (∑ c, weight s' c * g' c) = ∑ k, weight s k * g k := fun g' g hg => by
    have hl : ∀ c, weight s' c * g' c ≠ 0 → s' c ≠ ⊥ := fun c h => hne' c fun h0 => h (by rw [h0, zero_mul])
    refine Finset.sum_bij_ne_zero (fun c _ _ => e c) (fun _ _ _ => Finset.mem_univ _) ?_ ?_ ?_
    · intro a _ ha b _ hb hab
      exact hi a b (hl a ha) (hl b hb) hab
    · intro k _ h
      have hb := hne k fun h0 => h (by rw [h0, zero_mul])
      obtain ⟨c, hc, hcs⟩ := hk k hb
      have hcb : s' c ≠ ⊥ := hcs ▸ hb
      refine ⟨c, Finset.mem_univ _, ?_, hc⟩
      rw [← hw c hcb, ← hg c hcb, hc]; exact h
    · intro a _ ha
      rw [hw a (hl a ha), hg a (hl a ha)]
  refine ⟨hfs, ?_⟩
  unfold attend
  rw [key v' v fun c h => (hs c h).2]
  congr 1
  simpa using key (fun _ => 1) (fun _ => 1) fun _ _ => rfl

end Cert.Rows
-- ==== Proof.Finite.lean ====
/-
  What the tests of finiteness give, element by element.
-/
module
public import proofs.«01_k».proof.Defs
public import proofs.«01_k».proof.Proof.Attend
public import proofs.«01_k».proof.Proof.Gen.Pre_band_finite
public import proofs.«01_k».proof.Proof.Gen.Pre_step_finite
public import Idealize.ShloMosaic.Lib.ReduceAll
public import Idealize.ShloMosaic.Lib.Affine
public import Idealize.ShloMosaic.Lib.Pointwise
@[expose] public section
set_option maxRecDepth 16384
noncomputable section
namespace Cert.Rows
open Idealize.ShloMosaic Idealize.ShloMosaic.TcCoe

/-- An extended real that is a real number. -/
def Real' (x : EReal) : Prop := ∃ r : ℝ, x = r

theorem real_of_ne {x : EReal} (h1 : x ≠ ⊤) (h2 : x ≠ ⊥) : Real' x := ⟨x.toReal, (EReal.coe_toReal h1 h2).symm⟩
theorem Real'.ne_top {x : EReal} : Real' x → x ≠ ⊤ := by rintro ⟨r, rfl⟩; exact EReal.coe_ne_top r
theorem Real'.ne_bot {x : EReal} : Real' x → x ≠ ⊥ := by rintro ⟨r, rfl⟩; exact EReal.coe_ne_bot r
theorem Real'.add {x y : EReal} : Real' x → Real' y → Real' (x + y) := by
  rintro ⟨r, rfl⟩ ⟨s, rfl⟩; exact ⟨r + s, (EReal.coe_add r s).symm⟩
theorem Real'.mul {x y : EReal} : Real' x → Real' y → Real' (x * y) := by
  rintro ⟨r, rfl⟩ ⟨s, rfl⟩; exact ⟨r * s, (EReal.coe_mul r s).symm⟩
theorem Real'.sum {ι : Type} (s : Finset ι) {f : ι → EReal} (h : ∀ i, Real' (f i)) : Real' (∑ i ∈ s, f i) := by
  induction s using Finset.cons_induction with
  | empty => exact ⟨0, by simp⟩
  | cons a s ha ih => rw [Finset.sum_cons]; exact (h a).add ih

/-- The scale of the scores is a real number. -/
theorem scale_real : Real' (Ideal.ofBits .f32 1040187392#32) := by
  refine ⟨1 / 8, ?_⟩
  simp [Ideal.ofBits, Ideal.ieee, -EReal.coe_mul]
  norm_num

/-- A score of real queries, keys and bias is real. -/
theorem score_real {q k : Fin 64 → EReal} {b : EReal} (hq : ∀ x, Real' (q x)) (hk : ∀ x, Real' (k x)) (hb : Real' b) :
    Real' (score q k b) := ((Real'.sum _ fun x => (hq x).mul (hk x)).mul scale_real).add hb

/-- An element whose magnitude is below infinity is real. -/
theorem real_of_lt (x : EReal) (h : Ideal.cmp .olt (max x (-x)) (Ideal.ofBits .f32 0x7F800000#32) = 1#1) : Real' x := by
  have ht : Ideal.ofBits .f32 0x7F800000#32 = ⊤ := by simp [Ideal.ofBits, Ideal.ieee]
  rw [ht] at h
  have hlt : max x (-x) < ⊤ := by
    by_contra hn
    have : Ideal.cmp .olt (max x (-x)) ⊤ = 0#1 := by
      unfold Ideal.cmp
      rw [decide_eq_false hn]
      rfl
    rw [this] at h
    exact absurd h (by decide)
  refine real_of_ne (fun e => ?_) (fun e => ?_)
  · rw [e] at hlt; simp at hlt
  · rw [e] at hlt; simp at hlt

instance : Subsingleton (Cert.Pre_step_finite.S_).Idx := ⟨fun a b => funext fun i => i.elim0⟩
instance : Subsingleton (Cert.Pre_band_finite.S_).Idx := ⟨fun a b => funext fun i => i.elim0⟩

section Step
open Cert.Pre_step_finite
variable (p : Vec Ideal S16x32x6912 .f32) (ck cv : Vec Ideal S16x512x4x64 .f32) (t : Vec Ideal S4x257 .f32)

/-- The decoding step's test: queries and new keys, cached keys and biases are real. -/
theorem step_real (h : Cert.Pre_step_finite.fn (F := Ideal) p ck cv t = fun _ => 1#1) :
    (∀ (b : Fin 16) (r : Fin 32) (k : Fin 512), Real' (p (ix3 b r ⟨3072 + k.val, by omega⟩ : S16x32x6912.Idx)))
      ∧ (∀ i, Real' (ck i)) ∧ ∀ i, Real' (t i) := by
  have h0 := congrFun h ix0
  dsimp only [Cert.Pre_step_finite.fn] at h0
  obtain ⟨h1, h3⟩ := IntOp.andi_eq_one.1 h0
  obtain ⟨h1, h2⟩ := IntOp.andi_eq_one.1 h1
  refine ⟨fun b r k => ?_, fun i => real_of_lt _ (Host.reduce_andi_all _ _ _ _ _ h2 i), fun i => real_of_lt _ (Host.reduce_andi_all _ _ _ _ _ h3 i)⟩
  have := real_of_lt _ (Host.reduce_andi_all _ _ _ _ _ h1 (ix3 b r k : S16x32x512.Idx))
  refine cast (congrArg Real' ?_) this
  pointwise
end Step

section Band
open Cert.Pre_band_finite
variable (p : Vec Ideal S32x2048x6912 .f32) (t : Vec Ideal S4x257 .f32)

/-- The prompt's test: queries, keys and biases are real. -/
theorem band_real (h : Cert.Pre_band_finite.fn (F := Ideal) p t = fun _ => 1#1) :
    (∀ (b : Fin 32) (r : Fin 2048) (k : Fin 512), Real' (p (ix3 b r ⟨3072 + k.val, by omega⟩ : S32x2048x6912.Idx)))
      ∧ ∀ i, Real' (t i) := by
  have h0 := congrFun h ix0
  dsimp only [Cert.Pre_band_finite.fn] at h0
  obtain ⟨h1, h3⟩ := IntOp.andi_eq_one.1 h0
  refine ⟨fun b r k => ?_, fun i => real_of_lt _ (Host.reduce_andi_all _ _ _ _ _ h3 i)⟩
  have := real_of_lt _ (Host.reduce_andi_all _ _ _ _ _ h1 (ix3 b r k : S32x2048x512.Idx))
  refine cast (congrArg Real' ?_) this
  pointwise
end Band

end Cert.Rows
-- ==== Proof.BandHead.lean ====
/-
  One head of the prompt's attention, read at an element.
-/
module
public import proofs.«01_k».proof.Proof.Attend
public import proofs.«01_k».proof.Proof.Gen.BandIdeal.Value
public import Idealize.ShloMosaic.Lib.Pointwise
public import Idealize.ShloMosaic.Lib.Pipeline.ValueKit
@[expose] public section
set_option maxRecDepth 16384
noncomputable section
namespace Cert.BandV
open Cert.BandIdeal Cert.BandIdeal.Gen Idealize.ShloMosaic Idealize.ShloMosaic.TcCoe Cert.Rows

/-- One head's attention at one query and one lane: the columns of the head begin at `o`; keys whose mask is off score the lowest value. -/
def head (w : IVec S64x576 1) (q : Vec Ideal S1x64x256 .f32) (k v : Vec Ideal S576x256 .bf16) (b : Fin 576 → EReal) (o : Nat) (ho : o ≤ 192)
    (r : Fin 64) (c : Fin 64) : EReal :=
  attend (fun j => Scalar.select (w (ix2 r j))
      (score (fun x => q (ix3 0 r ⟨o + x.val, by omega⟩)) (fun x => k (ix2 j ⟨o + x.val, by omega⟩)) (b j)) low)
    (fun j => v (ix2 j ⟨o + c.val, by omega⟩))

variable (i : grid0.Coords) (w : IVec S64x576 1) (q : Vec Ideal S1x64x256 .f32) (k v : Vec Ideal S576x256 .bf16) (b : Vec Ideal S1x64x576 .f32) (r : Fin 64) (c : Fin 64)

/-- The first head. -/
theorem head0 : k0_pay12 (F := Ideal) (k0_pay10 i k v q b) (k0_pay11 i k q b) (ix3 0 r c)
    = head (k0_pay7 i) q k v (fun j => b (ix3 0 r j)) 0 (by omega) r c := by
  pointwise [k0_pay12, k0_pay10, k0_pay11, k0_pay9, k0_pay8]
  simp only [head, attend, weight, top, score, zero_add]

/-- The second head. -/
theorem head1 : k0_pay13 (F := Ideal) k v w (k0_pay8 q) b (ix3 0 r c)
    = head w q k v (fun j => b (ix3 0 r j)) 64 (by omega) r c := by
  pointwise [k0_pay13, k0_pay8]
  rfl

/-- The third head. -/
theorem head2 : k0_pay16 (F := Ideal) v w (k0_pay14 k (k0_pay8 q)) (k0_pay15 b) (ix3 0 r c)
    = head w q k v (fun j => b (ix3 0 r j)) 128 (by omega) r c := by
  pointwise [k0_pay16, k0_pay14, k0_pay15, k0_pay8]
  rfl

/-- The fourth head. -/
theorem head3 : k0_pay1 (F := Ideal) (k0_pay17 k v w (k0_pay8 q) b) (ix3 0 r c)
    = head w q k v (fun j => b (ix3 0 r j)) 192 (by omega) r c := by
  pointwise [k0_pay1, k0_pay17, k0_pay8]
  rfl

theorem lead_word : ∀ n : Fin 32, (IntOp.muli (IntOp.subi 8#32 (BitVec.ofNat 32 n.val)) 64#32).toInt = (8 - (n.val : ℤ)) * 64 := by decide +kernel

/-- The mask admits a key from the window's start on, but none before the sequence's first. -/
theorem mask_at (r : Fin 64) (j : Fin 576) :
    k0_pay7 i (ix2 r j) = BitVec.ofBool (decide (512 ≤ 64 * (i 1).val + j.val)) := by
  pointwise [k0_pay7]
  have hi : (i 1).val < 32 := (i 1).isLt
  have h := lead_word ⟨(i 1).val, hi⟩
  have hj : (BitVec.ofNat 32 j.val).toInt = (j.val : ℤ) := by
    rw [BitVec.toInt_eq_toNat_of_lt (by rw [BitVec.toNat_ofNat]; omega), BitVec.toNat_ofNat]
    omega
  show BitVec.ofBool ((IntOp.muli (IntOp.subi 8#32 (BitVec.ofNat 32 (i 1).val)) 64#32).sle (BitVec.ofNat 32 j.val)) = _
  congr 1
  rw [BitVec.sle_eq_decide, h, hj]
  refine decide_eq_decide.2 ?_
  show (8 - ((i 1).val : ℤ)) * 64 ≤ (j.val : ℤ) ↔ _
  omega

end Cert.BandV
-- ==== Proof.BandBlock.lean ====
/-
  One grid point of the prompt's attention, read at an element of its output block, and what its first point of each sample
  leaves in the two carried windows.
-/
module
public import proofs.«01_k».proof.Proof.BandHead
@[expose] public section
set_option maxRecDepth 16384
noncomputable section
namespace Cert.BandV
open Cert.BandIdeal Cert.BandIdeal.Gen Idealize.ShloMosaic Idealize.ShloMosaic.TcCoe Cert.Rows

/-- One head of four at grid coordinates `i`, its keys and values in the carried windows from row `64 * i 1` on. -/
def headAt (i : grid0.Coords) (q : Vec Ideal S1x64x256 .f32) (sk sv : Vec Ideal S2560x256 .bf16) (b : Vec Ideal S4x64x576 .f32)
    (h : Fin 4) (r : Fin 64) (c : Fin 64) : EReal :=
  head (k0_pay7 i) q (View.ld sk (Rect.unit (s := S2560x256) (k0_off1 i) S576x256.size (k0_off1_inb i)))
    (View.ld sv (Rect.unit (s := S2560x256) (k0_off1 i) S576x256.size (k0_off1_inb i))) (fun j => b (ix3 h r j)) (64 * h.val) (by omega) r c

/-- The output block: each head's attention in its 64 lanes. -/
def lanes (i : grid0.Coords) (q : Vec Ideal S1x64x256 .f32) (sk sv : Vec Ideal S2560x256 .bf16) (b : Vec Ideal S4x64x576 .f32)
    (y : S1x64x256.Idx) : EReal :=
  headAt i q sk sv b ⟨(y 2).val / 64, by have : (y 2).val < 256 := (y 2).isLt; omega⟩ (y 1) ⟨(y 2).val % 64, by omega⟩

theorem lanes_of (i : grid0.Coords) (q : Vec Ideal S1x64x256 .f32) (sk sv : Vec Ideal S2560x256 .bf16) (b : Vec Ideal S4x64x576 .f32)
    (h : Fin 4) (r : Fin 64) (c : Fin 64) (y : S1x64x256.Idx) (h1 : y 1 = r) (h2 : (y 2).val = 64 * h.val + c.val) :
    lanes i q sk sv b y = headAt i q sk sv b h r c := by
  unfold lanes
  have e1 : (⟨(y 2).val / 64, by have : (y 2).val < 256 := (y 2).isLt; omega⟩ : Fin 4) = h := Fin.ext (by show (y 2).val / 64 = _; omega)
  have e2 : (⟨(y 2).val % 64, by omega⟩ : Fin 64) = c := Fin.ext (by show (y 2).val % 64 = _; omega)
  rw [e1, e2, h1]

/-- A head's table of biases, read through its window. -/
theorem bias_ld (b : Vec Ideal S4x64x576 .f32) (o : Nat) (inb) (h : Fin 4) (ho : h.val = o) (r : Fin 64) (j : Fin 576) :
    View.ld b (Rect.unit (s := S4x64x576) ![o, 0, 0] S1x64x576.size inb) (ix3 0 r j : S1x64x576.Idx) = b (ix3 h r j) :=
  View.ld_unit_apply_of b _ _ _ _ _ fun a => by
    match a with
    | ⟨0, _⟩ => show h.val = o + 0; omega
    | ⟨1, _⟩ => show r.val = 0 + r.val; omega
    | ⟨2, _⟩ => show j.val = 0 + j.val; omega

/-- The place of a head's tile in the output block. -/
theorem lanes_tile (i : grid0.Coords) (q : Vec Ideal S1x64x256 .f32) (sk sv : Vec Ideal S2560x256 .bf16) (b : Vec Ideal S4x64x576 .f32)
    (o : Nat) (inb) (h : Fin 4) (ho : 64 * h.val = o) (r : Fin 64) (c : Fin 64) :
    lanes i q sk sv b ((Rect.unit (s := S1x64x256) ![0, 0, o] S1x64x64.size inb).emb (ix3 0 r c : S1x64x64.Idx)) = headAt i q sk sv b h r c := by
  refine lanes_of i q sk sv b h r c _ (Fin.ext ?_) ?_
  · refine (Idealize.ShloMosaic.ValueKit.rect_emb_unit_val _ _ _ _ _).trans ?_
    show 0 + r.val = r.val
    omega
  · refine (Idealize.ShloMosaic.ValueKit.rect_emb_unit_val _ _ _ _ _).trans ?_
    show o + c.val = _
    omega

/-- The four tiles one grid point stores. -/
def tiles (i : grid0.Coords) (q : Vec Ideal S1x64x256 .f32) (k v : Vec Ideal S576x256 .bf16) (b0 b1 b2 b3 : Vec Ideal S1x64x576 .f32) :
    List (View.Piece (Elt Ideal) S1x64x256 .f32) :=
  [⟨Rect.unit (s := S1x64x256) ![0, 0, 192] S1x64x64.size inb_S1x64x256_S1x64x64_0_0_192, k0_pay1 (k0_pay17 k v (k0_pay7 i) (k0_pay8 q) b3)⟩,
   ⟨Rect.unit (s := S1x64x256) ![0, 0, 128] S1x64x64.size inb_S1x64x256_S1x64x64_0_0_128, k0_pay16 v (k0_pay7 i) (k0_pay14 k (k0_pay8 q)) (k0_pay15 b2)⟩,
   ⟨Rect.unit (s := S1x64x256) ![0, 0, 64] S1x64x64.size inb_S1x64x256_S1x64x64_0_0_64, k0_pay13 k v (k0_pay7 i) (k0_pay8 q) b1⟩,
   ⟨Rect.unit (s := S1x64x256) ![0, 0, 0] S1x64x64.size inb_S1x64x256_S1x64x64_0_0_0, k0_pay12 (k0_pay10 i k v q b0) (k0_pay11 i k q b0)⟩]

/-- The tiles' element: each head's attention in its 64 lanes. -/
theorem tiles_at (i : grid0.Coords) (q : Vec Ideal S1x64x256 .f32) (sk sv : Vec Ideal S2560x256 .bf16) (b : Vec Ideal S4x64x576 .f32)
    (L : List (View.Piece (Elt Ideal) S1x64x256 .f32))
    (hL : L = tiles i q (View.ld sk (Rect.unit (s := S2560x256) (k0_off1 i) S576x256.size (k0_off1_inb i)))
      (View.ld sv (Rect.unit (s := S2560x256) (k0_off1 i) S576x256.size (k0_off1_inb i)))
      (View.ld b (Rect.unit (s := S4x64x576) ![0, 0, 0] S1x64x576.size inb_S4x64x576_S1x64x576_0_0_0))
      (View.ld b (Rect.unit (s := S4x64x576) ![1, 0, 0] S1x64x576.size inb_S4x64x576_S1x64x576_1_0_0))
      (View.ld b (Rect.unit (s := S4x64x576) ![2, 0, 0] S1x64x576.size inb_S4x64x576_S1x64x576_2_0_0))
      (View.ld b (Rect.unit (s := S4x64x576) ![3, 0, 0] S1x64x576.size inb_S4x64x576_S1x64x576_3_0_0)))
    (hc : ∀ y, ∃ p ∈ L, y ∈ p.1.set) (r : Fin 64) (h : Fin 4) (c : Fin 64) :
    View.canon (Val := Elt Ideal) L (ix3 0 r ⟨64 * h.val + c.val, by omega⟩ : S1x64x256.Idx) = headAt i q sk sv b h r c := by
  rw [← lanes_of i q sk sv b h r c (ix3 0 r ⟨64 * h.val + c.val, by omega⟩ : S1x64x256.Idx) rfl rfl]
  refine View.canon_apply_of_pieces (Val := Elt Ideal) (S := S1x64x256) (e := .f32) (lanes i q sk sv b) _ ?_ _ (hc _)
  subst hL
  intro p hp
  unfold tiles at hp
  simp only [List.mem_cons, List.not_mem_nil, or_false] at hp
  rcases hp with rfl | rfl | rfl | rfl <;> intro x <;>
    (obtain ⟨u, r, c, rfl⟩ : ∃ (u : Fin 1) (r : Fin 64) (c : Fin 64), x = (ix3 u r c : S1x64x64.Idx) := ⟨x 0, x 1, x 2, ValueIdx.eq_ix3 x⟩) <;>
    (obtain rfl : u = 0 := Subsingleton.elim _ _)
  · refine Eq.trans ?_ (lanes_tile i q sk sv b 192 inb_S1x64x256_S1x64x64_0_0_192 3 rfl r c).symm
    exact (head3 _ q _ _ _ r c).trans (congrArg (fun b => head (k0_pay7 i) q _ _ b 192 (by omega) r c) (funext fun j => bias_ld b 3 _ 3 rfl r j))
  · refine Eq.trans ?_ (lanes_tile i q sk sv b 128 inb_S1x64x256_S1x64x64_0_0_128 2 rfl r c).symm
    exact (head2 _ q _ _ _ r c).trans (congrArg (fun b => head (k0_pay7 i) q _ _ b 128 (by omega) r c) (funext fun j => bias_ld b 2 _ 2 rfl r j))
  · refine Eq.trans ?_ (lanes_tile i q sk sv b 64 inb_S1x64x256_S1x64x64_0_0_64 1 rfl r c).symm
    exact (head1 _ q _ _ _ r c).trans (congrArg (fun b => head (k0_pay7 i) q _ _ b 64 (by omega) r c) (funext fun j => bias_ld b 1 _ 1 rfl r j))
  · refine Eq.trans ?_ (lanes_tile i q sk sv b 0 inb_S1x64x256_S1x64x64_0_0_0 0 rfl r c).symm
    exact (head0 i q _ _ _ r c).trans (congrArg (fun b => head (k0_pay7 i) q _ _ b 0 (by omega) r c) (funext fun j => bias_ld b 0 _ 0 rfl r j))

/-- A window after its filling: 512 rows of zeros, then the block's rows. -/
def filled (x : Vec Ideal S1x2048x256 .f32) (y : S2560x256.Idx) : EReal :=
  if h : (y 0).val < 512 then 0 else x (ix3 0 ⟨(y 0).val - 512, by have : (y 0).val < 2560 := (y 0).isLt; omega⟩ (y 1))

theorem fill_zero (k : Vec Ideal S1x2048x256 .f32) (x : S512x256.Idx) :
    k0_pay3 (F := Ideal) x = filled k ((Rect.unit (s := S2560x256) ![0, 0] S512x256.size inb_S2560x256_S512x256_0_0).emb x) := by
  obtain ⟨u, c, rfl⟩ : ∃ (u : Fin 512) (c : Fin 256), x = (ix2 u c : S512x256.Idx) := ⟨x 0, x 1, ValueIdx.eq_ix2 x⟩
  have h0 : (((Rect.unit (s := S2560x256) ![0, 0] S512x256.size inb_S2560x256_S512x256_0_0).emb (ix2 u c : S512x256.Idx)) 0).val = u.val := by
    refine (Idealize.ShloMosaic.ValueKit.rect_emb_unit_val _ _ _ _ _).trans ?_
    show 0 + u.val = u.val
    omega
  unfold filled
  rw [dif_pos (by rw [h0]; exact u.isLt)]
  pointwise [k0_pay3, k0_pay2]

theorem fill_rows (k : Vec Ideal S1x2048x256 .f32) (x : S2048x256.Idx) :
    k0_pay5 (F := Ideal) k x = filled k ((Rect.unit (s := S2560x256) ![512, 0] S2048x256.size inb_S2560x256_S2048x256_512_0).emb x) := by
  obtain ⟨u, c, rfl⟩ : ∃ (u : Fin 2048) (c : Fin 256), x = (ix2 u c : S2048x256.Idx) := ⟨x 0, x 1, ValueIdx.eq_ix2 x⟩
  have h0 : (((Rect.unit (s := S2560x256) ![512, 0] S2048x256.size inb_S2560x256_S2048x256_512_0).emb (ix2 u c : S2048x256.Idx)) 0).val = 512 + u.val :=
    Idealize.ShloMosaic.ValueKit.rect_emb_unit_val _ _ _ _ _
  have h1 : (((Rect.unit (s := S2560x256) ![512, 0] S2048x256.size inb_S2560x256_S2048x256_512_0).emb (ix2 u c : S2048x256.Idx)) 1).val = c.val := by
    refine (Idealize.ShloMosaic.ValueKit.rect_emb_unit_val _ _ _ _ _).trans ?_
    show 0 + c.val = c.val
    omega
  unfold filled
  rw [dif_neg (by rw [h0]; omega)]
  pointwise [k0_pay5]
  refine congrArg₂ (fun u c => k (ix3 0 u c : S1x2048x256.Idx)) (Fin.ext ?_) (Fin.ext h1.symm)
  show u.val = _ - 512
  rw [h0]
  omega

/-- The two stores that fill a window. -/
theorem canon_fill (k : Vec Ideal S1x2048x256 .f32) (L : List (View.Piece (Elt Ideal) S2560x256 .bf16))
    (hL : L = [⟨Rect.unit (s := S2560x256) ![512, 0] S2048x256.size inb_S2560x256_S2048x256_512_0, k0_pay5 (F := Ideal) k⟩,
      ⟨Rect.unit (s := S2560x256) ![0, 0] S512x256.size inb_S2560x256_S512x256_0_0, k0_pay3 (F := Ideal)⟩])
    (hc : ∀ y, ∃ p ∈ L, y ∈ p.1.set) : View.canon (Val := Elt Ideal) L = filled k := by
  funext y
  refine View.canon_apply_of_pieces (Val := Elt Ideal) (S := S2560x256) (e := .bf16) (filled k) _ ?_ _ (hc _)
  subst hL
  intro p hp
  simp only [List.mem_cons, List.not_mem_nil, or_false] at hp
  rcases hp with rfl | rfl
  · exact fill_rows k
  · exact fill_zero k

/-- The first point of a sample leaves the keys' window filled, -/
theorem sout_0 (c : Dev nD) (i : grid0.Coords) (arg2 : Memref sig .tc .vmem S1x64x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S4x64x576 .f32) (harg5 : arg5.IsWhole) (arg6 : Memref sig .tc .vmem S1x64x256 .f32) (harg6 : arg6.IsWhole) (arg7 : Memref sig .tc .vmem S2560x256 .bf16) (harg7 : arg7.IsWhole) (arg8 : Memref sig .tc .vmem S2560x256 .bf16) (harg8 : arg8.IsWhole) (hc0 : cond0_0 i)
    (x0 : Vec Ideal S1x64x256 .f32) (x1 : Vec Ideal S1x2048x256 .f32) (x2 : Vec Ideal S1x2048x256 .f32) (x3 : Vec Ideal S4x64x576 .f32) :
    sout0_A_0 (F := Ideal) c i arg2 harg2 arg3 harg3 arg4 harg4 arg5 harg5 arg6 harg6 arg7 harg7 arg8 harg8 hc0 x0 x1 x2 x3 = filled x1 := by
  unfold sout0_A_0
  refine (View.read_writes_eq_canon _ _ _ (scover0_A_0 c i arg2 harg2 arg3 harg3 arg4 harg4 arg5 harg5 arg6 harg6 arg7 harg7 arg8 harg8 hc0 x0 x1 x2 x3)).trans ?_
  refine canon_fill x1 _ ?_ (scover0_A_0 c i arg2 harg2 arg3 harg3 arg4 harg4 arg5 harg5 arg6 harg6 arg7 harg7 arg8 harg8 hc0 x0 x1 x2 x3)
  unfold kernelRun0_A
  dsimp only
  simp only [kernelRun0_A.sl.HS0_2, View.readAt_eq_ld, Memref.IsWhole.read_unread]
  rw [View.ld_unit_zero (X := x1) (by decide)]

/-- and the values' window filled. -/
theorem sout_1 (c : Dev nD) (i : grid0.Coords) (arg2 : Memref sig .tc .vmem S1x64x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S4x64x576 .f32) (harg5 : arg5.IsWhole) (arg6 : Memref sig .tc .vmem S1x64x256 .f32) (harg6 : arg6.IsWhole) (arg7 : Memref sig .tc .vmem S2560x256 .bf16) (harg7 : arg7.IsWhole) (arg8 : Memref sig .tc .vmem S2560x256 .bf16) (harg8 : arg8.IsWhole) (hc0 : cond0_0 i)
    (x0 : Vec Ideal S1x64x256 .f32) (x1 : Vec Ideal S1x2048x256 .f32) (x2 : Vec Ideal S1x2048x256 .f32) (x3 : Vec Ideal S4x64x576 .f32) :
    sout0_A_1 (F := Ideal) c i arg2 harg2 arg3 harg3 arg4 harg4 arg5 harg5 arg6 harg6 arg7 harg7 arg8 harg8 hc0 x0 x1 x2 x3 = filled x2 := by
  unfold sout0_A_1
  refine (View.read_writes_eq_canon _ _ _ (scover0_A_1 c i arg2 harg2 arg3 harg3 arg4 harg4 arg5 harg5 arg6 harg6 arg7 harg7 arg8 harg8 hc0 x0 x1 x2 x3)).trans ?_
  refine canon_fill x2 _ ?_ (scover0_A_1 c i arg2 harg2 arg3 harg3 arg4 harg4 arg5 harg5 arg6 harg6 arg7 harg7 arg8 harg8 hc0 x0 x1 x2 x3)
  unfold kernelRun0_A
  dsimp only
  simp only [kernelRun0_A.sl.HS1_2, View.readAt_eq_ld, Memref.IsWhole.read_unread]
  rw [View.ld_unit_zero (X := x2) (by decide)]
  rfl

/-- What a later point computes from the carried windows. -/
theorem out_B (c : Dev nD) (i : grid0.Coords) (arg2 : Memref sig .tc .vmem S1x64x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S4x64x576 .f32) (harg5 : arg5.IsWhole) (arg6 : Memref sig .tc .vmem S1x64x256 .f32) (harg6 : arg6.IsWhole) (arg7 : Memref sig .tc .vmem S2560x256 .bf16) (harg7 : arg7.IsWhole) (arg8 : Memref sig .tc .vmem S2560x256 .bf16) (harg8 : arg8.IsWhole) (hc0 : ¬cond0_0 i)
    (x0 : Vec Ideal S1x64x256 .f32) (x1 : Vec Ideal S1x2048x256 .f32) (x2 : Vec Ideal S1x2048x256 .f32) (x3 : Vec Ideal S4x64x576 .f32) (xs0 : Vec Ideal S2560x256 .bf16) (xs1 : Vec Ideal S2560x256 .bf16)
    (r : Fin 64) (h : Fin 4) (x : Fin 64) :
    out0_B_4 (F := Ideal) c i arg2 harg2 arg3 harg3 arg4 harg4 arg5 harg5 arg6 harg6 arg7 harg7 arg8 harg8 hc0 x0 x1 x2 x3 xs0 xs1 (ix3 0 r ⟨64 * h.val + x.val, by omega⟩) = headAt i x0 xs0 xs1 x3 h r x := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  refine tiles_at i x0 xs0 xs1 x3 _ ?_ (cover0_B_4 c i arg2 harg2 arg3 harg3 arg4 harg4 arg5 harg5 arg6 harg6 arg7 harg7 arg8 harg8 hc0 x0 x1 x2 x3 xs0 xs1) r h x
  unfold kernelRun0_B
  dsimp only
  simp only [kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, View.readAt_eq_ld, Memref.IsWhole.read_unread]
  rw [View.ld_unit_zero (X := x0) (by decide)]
  rfl

/-- What a sample's first point computes: from the windows it has just filled. -/
theorem out_A (c : Dev nD) (i : grid0.Coords) (arg2 : Memref sig .tc .vmem S1x64x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S4x64x576 .f32) (harg5 : arg5.IsWhole) (arg6 : Memref sig .tc .vmem S1x64x256 .f32) (harg6 : arg6.IsWhole) (arg7 : Memref sig .tc .vmem S2560x256 .bf16) (harg7 : arg7.IsWhole) (arg8 : Memref sig .tc .vmem S2560x256 .bf16) (harg8 : arg8.IsWhole) (hc0 : cond0_0 i)
    (x0 : Vec Ideal S1x64x256 .f32) (x1 : Vec Ideal S1x2048x256 .f32) (x2 : Vec Ideal S1x2048x256 .f32) (x3 : Vec Ideal S4x64x576 .f32)
    (r : Fin 64) (h : Fin 4) (x : Fin 64) :
    out0_A_4 (F := Ideal) c i arg2 harg2 arg3 harg3 arg4 harg4 arg5 harg5 arg6 harg6 arg7 harg7 arg8 harg8 hc0 x0 x1 x2 x3 (ix3 0 r ⟨64 * h.val + x.val, by omega⟩) = headAt i x0 (filled x1) (filled x2) x3 h r x := by
  have e0 := sout_0 c i arg2 harg2 arg3 harg3 arg4 harg4 arg5 harg5 arg6 harg6 arg7 harg7 arg8 harg8 hc0 x0 x1 x2 x3
  have e1 := sout_1 c i arg2 harg2 arg3 harg3 arg4 harg4 arg5 harg5 arg6 harg6 arg7 harg7 arg8 harg8 hc0 x0 x1 x2 x3
  unfold sout0_A_0 at e0
  unfold sout0_A_1 at e1
  rw [View.read_writes_junk_eq_canon] at e0 e1
  unfold out0_A_4
  rw [View.read_writes_eq_canon _ _ _ (cover0_A_4 c i arg2 harg2 arg3 harg3 arg4 harg4 arg5 harg5 arg6 harg6 arg7 harg7 arg8 harg8 hc0 x0 x1 x2 x3)]
  refine tiles_at i x0 (filled x1) (filled x2) x3 _ ?_ (cover0_A_4 c i arg2 harg2 arg3 harg3 arg4 harg4 arg5 harg5 arg6 harg6 arg7 harg7 arg8 harg8 hc0 x0 x1 x2 x3) r h x
  rw [← e0, ← e1]
  unfold kernelRun0_A
  dsimp only
  simp only [kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, View.readAt_eq_ld, Memref.IsWhole.read_unread, View.read_writes_junk_eq_canon]
  rw [View.ld_unit_zero (X := x0) (by decide)]
  rfl

end Cert.BandV
-- ==== Proof.Every.lean ====
/-
  A check of all naturals of a range, by halves.
-/
module
public import Mathlib.Tactic.Ring
@[expose] public section
namespace Cert.Rows

/-- Checks `f` at every natural from `b` up to `b + 2 ^ k`, by halves. -/
def every (f : Nat → Bool) : Nat → Nat → Bool
  | 0, b => f b
  | k + 1, b => every f k b && every f k (b + 2 ^ k)

theorem every_at (f : Nat → Bool) : ∀ (k b : Nat), every f k b = true → ∀ i, b ≤ i → i < b + 2 ^ k → f i = true
  | 0, b, h, i, h1, h2 => by
    have : i = b := by simp at h2; omega
    subst this; exact h
  | k + 1, b, h, i, h1, h2 => by
    simp only [every, Bool.and_eq_true] at h
    by_cases hi : i < b + 2 ^ k
    · exact every_at f k b h.1 i h1 hi
    · exact every_at f k _ h.2 i (by omega) (by rw [pow_succ] at h2; omega)

end Cert.Rows
-- ==== Proof.BandTable.lean ====
/-
  The printed table of relative distances of the band, entry by entry.
-/
module
public import proofs.«01_k».proof.BandIdeal
public import proofs.«01_k».proof.Proof.Every
@[expose] public section
set_option maxRecDepth 16384
noncomputable section
namespace Cert.BandT
open Cert.Rows

/-- Entry `i` of the table is the clipped distance of row `i / 576` to column `i % 576`. -/
def entryOk (i : Nat) : Bool :=
  Nat.beq (Cert.BandIdeal.lit0t i).toNat (min (i / 576 + 640 - i % 576) 256)

theorem blk0 : every entryOk 12 0 = true := by decide +kernel
theorem blk1 : every entryOk 12 4096 = true := by decide +kernel
theorem blk2 : every entryOk 12 8192 = true := by decide +kernel
theorem blk3 : every entryOk 12 12288 = true := by decide +kernel
theorem blk4 : every entryOk 12 16384 = true := by decide +kernel
theorem blk5 : every entryOk 12 20480 = true := by decide +kernel
theorem blk6 : every entryOk 12 24576 = true := by decide +kernel
theorem blk7 : every entryOk 12 28672 = true := by decide +kernel
theorem blk8 : every entryOk 12 32768 = true := by decide +kernel

/-- Every entry of the table. -/
theorem entry_nat (i : Nat) (h : i < 36864) :
    (Cert.BandIdeal.lit0t i).toNat = min (i / 576 + 640 - i % 576) 256 := by
  have key : entryOk i = true := by
    by_cases h0 : i < 4096
    · exact every_at _ 12 0 blk0 i (by omega) (by omega)
    by_cases h1 : i < 8192
    · exact every_at _ 12 4096 blk1 i (by omega) (by omega)
    by_cases h2 : i < 12288
    · exact every_at _ 12 8192 blk2 i (by omega) (by omega)
    by_cases h3 : i < 16384
    · exact every_at _ 12 12288 blk3 i (by omega) (by omega)
    by_cases h4 : i < 20480
    · exact every_at _ 12 16384 blk4 i (by omega) (by omega)
    by_cases h5 : i < 24576
    · exact every_at _ 12 20480 blk5 i (by omega) (by omega)
    by_cases h6 : i < 28672
    · exact every_at _ 12 24576 blk6 i (by omega) (by omega)
    by_cases h7 : i < 32768
    · exact every_at _ 12 28672 blk7 i (by omega) (by omega)
    exact every_at _ 12 32768 blk8 i (by omega) (by omega)
  exact Nat.eq_of_beq_eq_true key

end Cert.BandT
-- ==== Proof.Gather.lean ====
/-
  A gather of columns of a table, read at an index.
-/
module
public import Idealize.ShloMosaic.Lib.ValueIdxCore
@[expose] public section
noncomputable section
namespace Cert.Rows
open Idealize.ShloMosaic Idealize.ShloMosaic.ValueIdx

/-- The gather of one column per entry of a rectangle of column numbers. -/
abbrev colDims (H N R C : Nat)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- That gather at `(h, r, c)`: the table's row `h` at the column number of `(r, c)`, clamped. -/
theorem gather_col {α : Type} {H N R C w : Nat} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (c : Fin C) :
    Host.gather (colDims H N R C wf) x idx (ix3 h r c)
      = x (ix2 h ⟨min (idx (ix3 r c 0)).toInt.toNat (N - 1), by omega⟩) := by
  unfold Host.gather
  congr 1
  funext a
  refine Fin.ext ?_
  show (colDims H N R C wf).start (ix3 h r c) idx a + (colDims H N R C wf).batchCoord (ix3 h r c) a
      + (colDims H N R C wf).offCoord (ix3 h r c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    have hs : (colDims H N R C wf).start (ix3 h r c) idx 0 = 0 := by
      unfold GatherDims.start
      rw [dif_neg (show ¬ (0 : Fin 2) ∈ (colDims H N R C wf).startIndexMap from fun h => by simp at h)]
    rw [hs]
    simp only [Nat.zero_add, Nat.add_zero]
    unfold GatherDims.offCoord
    rw [dif_pos ((GatherDims.mem_sKept _ _).mpr ⟨fun h => by simp at h, List.not_mem_nil⟩)]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims H N R C wf).startIndexMap from List.mem_singleton.mpr rfl)]
    have hsi : (colDims H N R C wf).siIdx (ix3 h r c) ⟨List.idxOf (1 : Fin 2) (colDims H N R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl

/-- A column number below the table's width is not clamped. -/
theorem clamp_nat (w : BitVec 32) (n : Nat) (hw : w.toNat = n) (hn : n ≤ 256) : min w.toInt.toNat (257 - 1) = n := by
  have : w.toInt = (n : Int) := by rw [BitVec.toInt_eq_toNat_of_lt (by omega), hw]
  rw [this]
  simp only [Int.toNat_natCast]
  omega

end Cert.Rows
-- ==== Proof.BandArray.lean ====
/-
  What the prompt's output array holds after the run.
-/
module
public import proofs.«01_k».proof.Proof.BandBlock
public import proofs.«01_k».proof.Proof.BandTable
public import proofs.«01_k».proof.Proof.Gather
public import Idealize.ShloMosaic.Lib.Claim
@[expose] public section
set_option maxRecDepth 16384
noncomputable section
namespace Cert.BandV
open Cert.BandIdeal Cert.BandIdeal.Gen Idealize.ShloMosaic Idealize.ShloMosaic.TcCoe Cert.Rows

/-- One sample's 256 columns of the projection from column `o` on. -/
def cols (p : Vec Ideal S32x2048x6912 .f32) (b : Fin 32) (o : Nat) (ho : o ≤ 3584) : Vec Ideal S1x2048x256 .f32 :=
  fun y => p (ix3 b (y 1) ⟨o + (y 2).val, by have : (y 2).val < 256 := (y 2).isLt; omega⟩)

/-- The bias of query `r` of a chunk and key `j` of its window in head `h`. -/
def rel (t : Vec Ideal S4x257 .f32) (h : Fin 4) (r : Fin 64) (j : Fin 576) : EReal :=
  t (ix2 h ⟨min (r.val + 640 - j.val) 256, by omega⟩)

variable (m : (ℓ : Loc nD τ sig) → Buf (Elt Ideal) ℓ)

theorem entry_b (c : Dev nD) (h : Fin 4) (r : Fin 64) (j : Fin 576) :
    V m c main_v4 (ix3 h r j) = rel (m ((c : Thread nD τ).loc main_arg1)) h r j := by
  show StableHlo.after (List.flatten [hostOps0]) (fun b => m (c, b)) (Proc.devRef .tc main_v4) (ix3 h r j) = _
  simp only [hostOps0, List.flatten_cons, List.flatten_nil, List.append_nil, List.cons_append, List.nil_append]
  after_results
  refine (gather_col (by decide) gather_S4x257_S64x576x1_S4x64x576_0_1_n_n_1_2_41_wf _ _ h r j).trans ?_
  unfold rel
  refine congrArg (fun u => m ((c : Thread nD τ).loc main_arg1) (ix2 h u : S4x257.Idx)) (Fin.ext ?_)
  refine clamp_nat _ _ ?_ (by omega)
  have e : (S64x576.rowMajor (ix2 r j : S64x576.Idx)).val = r.val * 576 + j.val := by
    rw [Shape.rowMajor_val_two]
    rfl
  show (lit0t (S64x576.rowMajor (ix2 r j : S64x576.Idx)).val).toNat = _
  rw [e, BandT.entry_nat _ (by omega)]
  congr 1
  omega

/-- Grid point `t` reads sample `t / 32` of the projection, and of the queries chunk `t % 32`. -/
theorem idx0 : ∀ t : Fin cfg0.N, win0_0.index t 0 = t.val / 32 ∧ win0_0.index t 1 = t.val % 32 ∧ win0_0.index t 2 = 12 :=
  (by decide +kernel : ∀ t : Fin grid0.N, win0_0.index t 0 = t.val / 32 ∧ win0_0.index t 1 = t.val % 32 ∧ win0_0.index t 2 = 12)
theorem idx1 : ∀ t : Fin cfg0.N, win0_1.index t 0 = t.val / 32 ∧ win0_1.index t 1 = 0 ∧ win0_1.index t 2 = 13 :=
  (by decide +kernel : ∀ t : Fin grid0.N, win0_1.index t 0 = t.val / 32 ∧ win0_1.index t 1 = 0 ∧ win0_1.index t 2 = 13)
theorem idx2 : ∀ t : Fin cfg0.N, win0_2.index t 0 = t.val / 32 ∧ win0_2.index t 1 = 0 ∧ win0_2.index t 2 = 14 :=
  (by decide +kernel : ∀ t : Fin grid0.N, win0_2.index t 0 = t.val / 32 ∧ win0_2.index t 1 = 0 ∧ win0_2.index t 2 = 14)
theorem coord1 : ∀ t : Fin cfg0.N, (grid0.coords t 1).val = t.val % 32 := fun t => by
  have e : (grid0.coords t 1).val = t.val / 1 % 32 := Pipeline.Grid.coords_val t 1 (by decide) rfl
  omega

theorem pts : cfg0.N = 1024 := N_0
theorem lt_of_pts {n : ℕ} (hn : n < cfg0.N) : n < 1024 := lt_of_lt_of_eq hn N_0
theorem lt_pts (t : Fin cfg0.N) : t.val < 1024 := lt_of_lt_of_eq t.isLt N_0

/-- The queries' block at point `t`. -/
theorem blk0_at (c : Dev nD) (t : Fin cfg0.N) (r : Fin 64) (k : Fin 256) :
    iblk m c 0 t (ix3 0 r k)
      = m ((c : Thread nD τ).loc main_arg0) (ix3 ⟨t.val / 32, by have := lt_pts t; omega⟩ ⟨64 * (t.val % 32) + r.val, by omega⟩ ⟨3072 + k.val, by omega⟩ : S32x2048x6912.Idx) := by
  unfold iblk
  rw [View.read_apply]
  entry_read
  refine congrArg (m ((c : Thread nD τ).loc main_arg0)) ?_
  funext a
  refine Fin.ext ?_
  match a with
  | ⟨0, _⟩ =>
    refine (win0_0.rect_emb_val t (ix3 0 r k : S1x64x256.Idx) 0).trans ?_
    rw [(idx0 t).1]
    show t.val / 32 * 1 + 0 = t.val / 32
    omega
  | ⟨1, _⟩ =>
    refine (win0_0.rect_emb_val t (ix3 0 r k : S1x64x256.Idx) 1).trans ?_
    rw [(idx0 t).2.1]
    show t.val % 32 * 64 + r.val = 64 * (t.val % 32) + r.val
    omega
  | ⟨2, _⟩ =>
    refine (win0_0.rect_emb_val t (ix3 0 r k : S1x64x256.Idx) 2).trans ?_
    rw [(idx0 t).2.2]
    show 12 * 256 + k.val = 3072 + k.val
    omega

/-- The keys' block at point `t`. -/
theorem blk1 (c : Dev nD) (t : Fin cfg0.N) :
    iblk m c 1 t = cols (m ((c : Thread nD τ).loc main_arg0)) ⟨t.val / 32, by have := lt_pts t; omega⟩ 3328 (by omega) := by
  funext y
  obtain ⟨u, r, k, rfl⟩ : ∃ (u : Fin 1) (r : Fin 2048) (k : Fin 256), y = (ix3 u r k : S1x2048x256.Idx) := ⟨y 0, y 1, y 2, ValueIdx.eq_ix3 y⟩
  unfold iblk cols
  rw [View.read_apply]
  entry_read
  refine congrArg (m ((c : Thread nD τ).loc main_arg0)) ?_
  funext a
  refine Fin.ext ?_
  match a with
  | ⟨0, _⟩ =>
    refine (win0_1.rect_emb_val t (ix3 u r k : S1x2048x256.Idx) 0).trans ?_
    rw [(idx1 t).1]
    show t.val / 32 * 1 + u.val = t.val / 32
    omega
  | ⟨1, _⟩ => exact win0_1.rect_emb_val_of_index_zero t 1 (idx1 t).2.1 (ix3 u r k : S1x2048x256.Idx)
  | ⟨2, _⟩ =>
    refine (win0_1.rect_emb_val t (ix3 u r k : S1x2048x256.Idx) 2).trans ?_
    rw [(idx1 t).2.2]
    show 13 * 256 + k.val = 3328 + k.val
    omega

/-- The values' block at point `t`. -/
theorem blk2 (c : Dev nD) (t : Fin cfg0.N) :
    iblk m c 2 t = cols (m ((c : Thread nD τ).loc main_arg0)) ⟨t.val / 32, by have := lt_pts t; omega⟩ 3584 (by omega) := by
  funext y
  obtain ⟨u, r, k, rfl⟩ : ∃ (u : Fin 1) (r : Fin 2048) (k : Fin 256), y = (ix3 u r k : S1x2048x256.Idx) := ⟨y 0, y 1, y 2, ValueIdx.eq_ix3 y⟩
  unfold iblk cols
  rw [View.read_apply]
  entry_read
  refine congrArg (m ((c : Thread nD τ).loc main_arg0)) ?_
  funext a
  refine Fin.ext ?_
  match a with
  | ⟨0, _⟩ =>
    refine (win0_2.rect_emb_val t (ix3 u r k : S1x2048x256.Idx) 0).trans ?_
    rw [(idx2 t).1]
    show t.val / 32 * 1 + u.val = t.val / 32
    omega
  | ⟨1, _⟩ => exact win0_2.rect_emb_val_of_index_zero t 1 (idx2 t).2.1 (ix3 u r k : S1x2048x256.Idx)
  | ⟨2, _⟩ =>
    refine (win0_2.rect_emb_val t (ix3 u r k : S1x2048x256.Idx) 2).trans ?_
    rw [(idx2 t).2.2]
    show 14 * 256 + k.val = 3584 + k.val
    omega

/-- The table of biases, staged whole. -/
theorem blk3_at (c : Dev nD) (t : Fin cfg0.N) (h : Fin 4) (r : Fin 64) (j : Fin 576) :
    iblk m c 3 t (ix3 h r j) = rel (m ((c : Thread nD τ).loc main_arg1)) h r j := by
  rw [← entry_b m c h r j]
  unfold iblk
  rw [View.read_apply]
  refine congrArg (V m c main_v4) ?_
  funext a
  exact Fin.ext (win0_3.rect_emb_val_of_index_zero t a (by match a with | ⟨0, _⟩ => rfl | ⟨1, _⟩ => rfl | ⟨2, _⟩ => rfl) (ix3 h r j : S4x64x576.Idx))

/-- The carried windows after every point: filled with its sample's keys and values. -/
theorem carried (c : Dev nD) : ∀ (n : ℕ) (hn : n < cfg0.N),
    (outsAt0 m c n hn).2.1 = filled (cols (m ((c : Thread nD τ).loc main_arg0)) ⟨n / 32, by have := lt_of_pts hn; omega⟩ 3328 (by omega))
      ∧ (outsAt0 m c n hn).2.2 = filled (cols (m ((c : Thread nD τ).loc main_arg0)) ⟨n / 32, by have := lt_of_pts hn; omega⟩ 3584 (by omega)) := by
  intro n
  induction n with
  | zero =>
    intro hn
    rw [outsAt0_A m c ⟨0, hn⟩ rfl]
    dsimp only
    rw [sout_0, sout_1, blk1, blk2]
    exact ⟨rfl, rfl⟩
  | succ n ih =>
    intro hn
    by_cases h0 : (n + 1) % 32 = 0
    · rw [outsAt0_A m c ⟨n + 1, hn⟩ h0]
      dsimp only
      rw [sout_0, sout_1, blk1, blk2]
      exact ⟨rfl, rfl⟩
    · have hd : (n + 1) / 32 = n / 32 := by omega
      obtain ⟨i0, i1⟩ := ih (Nat.lt_of_succ_lt hn)
      rw [outsAt0_B m c ⟨n + 1, hn⟩ h0]
      dsimp only [sout0_B_0, sout0_B_1]
      simp only [hd]
      exact ⟨i0, i1⟩

/-- What every point computes: attention over its sample's filled windows. -/
theorem point_at (c : Dev nD) (t : Fin cfg0.N) (r : Fin 64) (h : Fin 4) (x : Fin 64) :
    (outsAt0 m c t.val t.isLt).1 (ix3 0 r ⟨64 * h.val + x.val, by omega⟩ : S1x64x256.Idx)
      = headAt (grid0.coords t) (iblk m c 0 t)
          (filled (cols (m ((c : Thread nD τ).loc main_arg0)) ⟨t.val / 32, by have := lt_pts t; omega⟩ 3328 (by omega)))
          (filled (cols (m ((c : Thread nD τ).loc main_arg0)) ⟨t.val / 32, by have := lt_pts t; omega⟩ 3584 (by omega))) (iblk m c 3 t) h r x := by
  by_cases h0 : t.val % 32 = 0
  · rw [outsAt0_A m c t h0]
    dsimp only
    rw [out_A, blk1, blk2]
  · have hd : (t.val - 1) / 32 = t.val / 32 := by omega
    obtain ⟨i0, i1⟩ := carried m c (t.val - 1) (Nat.lt_of_le_of_lt (Nat.sub_le _ _) t.isLt)
    rw [outsAt0_B m c t h0]
    dsimp only
    rw [out_B, i0, i1]
    simp only [hd]

/-- The scores of query `r` of chunk `ci` over its window of 576 keys; those before the sequence's first score the lowest value. -/
def wscore (p : Vec Ideal S32x2048x6912 .f32) (t : Vec Ideal S4x257 .f32) (b : Fin 32) (h : Fin 4) (ci : Fin 32) (r : Fin 64) (j : Fin 576) : EReal :=
  if hj : 512 ≤ 64 * ci.val + j.val then
    score (fun x => p (ix3 b ⟨64 * ci.val + r.val, by omega⟩ ⟨3072 + (64 * h.val + x.val), by omega⟩))
      (fun x => p (ix3 b ⟨64 * ci.val + j.val - 512, by omega⟩ ⟨3328 + (64 * h.val + x.val), by omega⟩)) (rel t h r j)
  else low

/-- The values of the window. -/
def wval (p : Vec Ideal S32x2048x6912 .f32) (b : Fin 32) (h : Fin 4) (ci : Fin 32) (x : Fin 64) (j : Fin 576) : EReal :=
  if hj : 512 ≤ 64 * ci.val + j.val then p (ix3 b ⟨64 * ci.val + j.val - 512, by omega⟩ ⟨3584 + (64 * h.val + x.val), by omega⟩) else 0

/-- A row of the filled window past its zeros, or a zero. -/
theorem filled_ld (x : Vec Ideal S1x2048x256 .f32) (i : grid0.Coords) (j : Fin 576) (k : Fin 256) (ci : Fin 32) (hi : (i 1).val = ci.val) :
    View.ld (filled x) (Rect.unit (s := S2560x256) (k0_off1 i) S576x256.size (k0_off1_inb i)) (ix2 j k : S576x256.Idx)
      = if hj : 512 ≤ 64 * ci.val + j.val then x (ix3 0 ⟨64 * ci.val + j.val - 512, by omega⟩ k) else 0 := by
  have hv : ∀ a, (((Rect.unit (s := S2560x256) (k0_off1 i) S576x256.size (k0_off1_inb i)).emb (ix2 j k : S576x256.Idx)) a).val
      = k0_off1 i a + ((ix2 j k : S576x256.Idx) a).val := fun a => Idealize.ShloMosaic.ValueKit.rect_emb_unit_val _ _ _ _ _
  have h0 := (hv 0).trans (congrArg (fun f : Fin 2 → ℕ => f 0 + j.val) (k0_off1_eq i))
  have h1 := (hv 1).trans (congrArg (fun f : Fin 2 → ℕ => f 1 + k.val) (k0_off1_eq i))
  replace h0 : _ = 64 * (i 1).val + j.val := h0
  replace h1 : _ = 0 + k.val := h1
  rw [hi] at h0
  show filled x ((Rect.unit (s := S2560x256) (k0_off1 i) S576x256.size (k0_off1_inb i)).emb (ix2 j k : S576x256.Idx)) = _
  generalize (Rect.unit (s := S2560x256) (k0_off1 i) S576x256.size (k0_off1_inb i)).emb (ix2 j k : S576x256.Idx) = y at h0 h1
  unfold filled
  by_cases hj : 512 ≤ 64 * ci.val + j.val
  · rw [dif_neg (by omega), dif_pos hj]
    refine congrArg₂ (fun u v => x (ix3 0 u v : S1x2048x256.Idx)) (Fin.ext ?_) (Fin.ext ?_)
    · show (y 0).val - 512 = _
      rw [h0]
    · omega
  · rw [dif_pos (by omega), dif_neg hj]

/-- The final array: each head's attention over each query's window. -/
theorem arr_at (c : Dev nD) (b : Fin 32) (ci : Fin 32) (r : Fin 64) (h : Fin 4) (x : Fin 64) :
    (dats m 0 c).arrAt 4 cfg0.N (ix3 b ⟨64 * ci.val + r.val, by omega⟩ ⟨64 * h.val + x.val, by omega⟩ : S32x2048x256.Idx)
      = attend (wscore (m ((c : Thread nD τ).loc main_arg0)) (m ((c : Thread nD τ).loc main_arg1)) b h ci r)
          (wval (m ((c : Thread nD τ).loc main_arg0)) b h ci x) := by
  have hN : 32 * b.val + ci.val < cfg0.N := by rw [pts]; omega
  have hp : Value.pt4Of (ix3 b ⟨64 * ci.val + r.val, by omega⟩ ⟨64 * h.val + x.val, by omega⟩ : S32x2048x256.Idx) = 32 * b.val + ci.val := by
    show 32 * (b.val / 1 - 0) + 1 * ((64 * ci.val + r.val) / 64 - 0) + 1 * ((64 * h.val + x.val) / 256 - 0) = _
    omega
  have hl : Value.loc4Of (ix3 b ⟨64 * ci.val + r.val, by omega⟩ ⟨64 * h.val + x.val, by omega⟩ : S32x2048x256.Idx)
      = (ix3 0 r ⟨64 * h.val + x.val, by omega⟩ : S1x64x256.Idx) := by
    funext a
    refine Fin.ext ?_
    match a with
    | ⟨0, _⟩ => show b.val % 1 = 0; omega
    | ⟨1, _⟩ => show (64 * ci.val + r.val) % 64 = r.val; omega
    | ⟨2, _⟩ => show (64 * h.val + x.val) % 256 = 64 * h.val + x.val; omega
  rw [Value.final4]
  unfold Value.G4
  rw [dif_pos (by rw [hp]; exact hN), hl, Value.fold0_congr m c _ _ _ (by omega) hp, ← Value.outsAt0_sweep m c _ hN]
  refine (point_at m c ⟨32 * b.val + ci.val, hN⟩ r h x).trans ?_
  have hb : (⟨(32 * b.val + ci.val) / 32, by omega⟩ : Fin 32) = b := Fin.ext (by show (32 * b.val + ci.val) / 32 = b.val; omega)
  have hc : (grid0.coords ⟨32 * b.val + ci.val, hN⟩ 1).val = ci.val := by
    rw [coord1]
    show (32 * b.val + ci.val) % 32 = ci.val
    omega
  unfold headAt head
  refine congrArg₂ attend (funext fun j => ?_) (funext fun j => ?_)
  · rw [mask_at, hc]
    unfold wscore
    by_cases hj : 512 ≤ 64 * ci.val + j.val
    · rw [dif_pos hj, decide_eq_true hj]
      show score _ _ _ = _
      simp only [blk0_at, blk3_at]
      have e0 : (⟨(32 * b.val + ci.val) / 32, by omega⟩ : Fin 32) = b := hb
      have e1 : ∀ h', (⟨64 * ((32 * b.val + ci.val) % 32) + r.val, h'⟩ : Fin 2048) = ⟨64 * ci.val + r.val, by omega⟩ :=
        fun h' => Fin.ext (by show 64 * ((32 * b.val + ci.val) % 32) + r.val = 64 * ci.val + r.val; omega)
      rw [e0]
      simp only [e1]
      congr 1
      funext x
      rw [filled_ld _ _ _ _ ci hc, dif_pos hj]
      rfl
    · rw [dif_neg hj, decide_eq_false hj]
      rfl
  · rw [filled_ld _ _ _ _ ci hc]
    unfold wval
    refine dite_congr rfl (fun hj => ?_) fun _ => rfl
    show m ((c : Thread nD τ).loc main_arg0) _ = _
    refine congrArg (fun u => m ((c : Thread nD τ).loc main_arg0) (ix3 u _ _ : S32x2048x6912.Idx)) ?_
    exact hb

end Cert.BandV
-- ==== Proof.Clip.lean ====
/-
  A clipped distance of two positions, as words.
-/
module
public import Idealize.ShloMosaic.PureOps.Vector
@[expose] public section
noncomputable section
namespace Cert.Rows
open Idealize.ShloMosaic

theorem toInt_small (x : BitVec 32) (n : Nat) (h : x.toNat = n) (hn : n < 2147483648) : x.toInt = n := by
  rw [BitVec.toInt_eq_toNat_of_lt (by omega), h]

/-- The difference of two small positions, clipped to 128 on either side and shifted to start at zero. -/
theorem clip_word (p q : BitVec 32) (P Q : Nat) (hp : p.toNat = P) (hq : q.toNat = Q) (hP : P < 65536) (hQ : Q < 65536) :
    (IntOp.addi (IntOp.minsi 128#32 (IntOp.maxsi 4294967168#32 (IntOp.subi p q))) 128#32).toNat = min (P + 128 - Q) 256 := by
  have hd : (p - q).toNat = (4294967296 - Q + P) % 4294967296 := by rw [BitVec.toNat_sub, hp, hq]
  have hi : (p - q).toInt = (P : Int) - Q := by
    rw [BitVec.toInt_eq_toNat_cond, hd]
    split <;> omega
  have a1 : (4294967168#32 : BitVec 32).toInt = -128 := by decide
  have a2 : (128#32 : BitVec 32).toInt = 128 := by decide
  unfold IntOp.addi IntOp.minsi IntOp.maxsi IntOp.subi
  have b1 : (p - q).slt 4294967168#32 = decide ((P : Int) - Q < -128) := by rw [BitVec.slt_eq_decide, hi, a1]
  have b2 : (128#32 : BitVec 32).slt (p - q) = decide (128 < (P : Int) - Q) := by rw [BitVec.slt_eq_decide, hi, a2]
  rw [b1]
  by_cases h1 : (P : Int) - Q < -128
  · rw [if_pos (decide_eq_true h1)]
    have : min (P + 128 - Q) 256 = 0 := by omega
    rw [this]
    decide
  · rw [if_neg (fun h => h1 (of_decide_eq_true h)), b2]
    by_cases h2 : (128 : Int) < (P : Int) - Q
    · rw [if_pos (decide_eq_true h2)]
      have : min (P + 128 - Q) 256 = 256 := by omega
      rw [this]
      decide
    · rw [if_neg (fun h => h2 (of_decide_eq_true h)), BitVec.toNat_add, hd]
      show ((4294967296 - Q + P) % 4294967296 + 128) % 4294967296 = _
      omega

/-- A word below `2 ^ 31` is not negative, so the wrap of negative positions leaves it. -/
theorem wrap_word (w z : BitVec 32) (n : Nat) (h : w.toNat = n) (hn : n < 65536) :
    Scalar.select (IntOp.cmpi .slt w 0#32) z w = w := by
  have h0 : IntOp.cmpi .slt w 0#32 = 0#1 := by
    show BitVec.ofBool (w.slt 0#32) = 0#1
    rw [BitVec.slt_eq_decide, toInt_small w n h (by omega)]
    have : ¬ ((n : Int) < (0#32 : BitVec 32).toInt) := by
      have : (0#32 : BitVec 32).toInt = 0 := by decide
      omega
    rw [decide_eq_false this]
    rfl
  rw [h0]
  rfl

end Cert.Rows
-- ==== Proof.BandRef.lean ====
/-
  What the prompt's reference computes, at an element.
-/
module
public import proofs.«01_k».proof.Proof.BandHead
public import proofs.«01_k».proof.Proof.Gather
public import proofs.«01_k».proof.Proof.Clip
public import proofs.«01_k».proof.Proof.Gen.BandRefIdeal.Read
public import Idealize.ShloMosaic.Lib.Pointwise
public import Idealize.ShloMosaic.Lib.Routing.Words
public import Idealize.ShloMosaic.Lib.StableHlo.Predicate
@[expose] public section
set_option maxRecDepth 16384
noncomputable section
namespace Cert.BandR
open Cert.BandRefIdeal Cert.BandRefIdeal.Gen Cert.BandRefIdeal.Read Idealize.ShloMosaic Idealize.ShloMosaic.TcCoe Cert.Rows

variable (x0 : Vec Ideal S32x2048x6912 .f32) (x1 : Vec Ideal S4x257 .f32)

/-- A key is in a query's band when its chunk is the query's or one of the eight before. -/
def InBand (q k : Fin 2048) : Prop := k.val / 64 ≤ q.val / 64 ∧ q.val / 64 ≤ k.val / 64 + 8

instance (q k : Fin 2048) : Decidable (InBand q k) := inferInstanceAs (Decidable (_ ∧ _))

/-- The bias of query `q` and key `k` in head `h`. -/
def bias (t : Vec Ideal S4x257 .f32) (h : Fin 4) (q k : Fin 2048) : EReal :=
  t (ix2 h ⟨min (q.val + 128 - k.val) 256, by omega⟩)

/-- The scores of query `q` over the whole sequence; those out of its band the lowest value. -/
def rscore (p : Vec Ideal S32x2048x6912 .f32) (t : Vec Ideal S4x257 .f32) (b : Fin 32) (h : Fin 4) (q k : Fin 2048) : EReal :=
  if InBand q k then
    score (fun x => p (ix3 b q ⟨3072 + (64 * h.val + x.val), by omega⟩))
      (fun x => p (ix3 b k ⟨3328 + (64 * h.val + x.val), by omega⟩)) (bias t h q k)
  else low

/-- The chunk of a position. -/
theorem chunk_at (q : Fin 2048) : val_main_v29 (F := Ideal) (ix1 q) = BitVec.ofNat 32 (q.val / 64) := by
  refine Eq.trans ?_ (Routing.pyDiv_ap (hb := bcast_S_S2048) (val_main_v7 (F := Ideal)) (val_main_call1_v0 (F := Ideal)) (ix1 q) (a := q.val) (b := 64) rfl rfl (by omega) (by omega) (by omega))
  rfl

theorem word_nat (n : Nat) (h : n < 65536) : (BitVec.ofNat 32 n).toNat = n := by rw [BitVec.toNat_ofNat]; omega

theorem le_word (a b : BitVec 32) (m n : Nat) (ha : a.toNat = m) (hb : b.toNat = n) (hm : m < 65536) (hn : n < 65536) :
    IntOp.cmpi .sle a b = BitVec.ofBool (decide (m ≤ n)) := by
  have h := StableHlo.Predicate.sle_iff_toNat (a := a) (b := b) (by omega) (by omega)
  rw [ha, hb] at h
  by_cases hc : m ≤ n
  · rw [h.2 hc, decide_eq_true hc]; rfl
  · rw [decide_eq_false hc]
    rcases (BitVec.eq_zero_or_eq_one (IntOp.cmpi .sle a b)) with e | e
    · exact e
    · exact absurd (h.1 e) hc

/-- The reference's mask. -/
theorem mask_at (q k : Fin 2048) : val_main_v42 (F := Ideal) (ix2 q k) = BitVec.ofBool (decide (InBand q k)) := by
  have hq := chunk_at q
  have hk := chunk_at k
  unfold val_main_v42 val_main_v41 val_main_v40 val_main_v39 val_main_v38 val_main_v37 val_main_v36 val_main_v35 val_main_v34 val_main_v33 val_main_v32 val_main_v31 val_main_v30
  generalize val_main_v29 (F := Ideal) = y at hq hk ⊢
  pointwise [val_main_c_5]
  rw [hq, hk]
  rw [le_word _ _ _ _ (word_nat (k.val / 64) (by omega)) (word_nat (q.val / 64) (by omega)) (by omega) (by omega)]
  have ha : (IntOp.addi (BitVec.ofNat 32 (k.val / 64)) 8#32).toNat = k.val / 64 + 8 := by
    show (BitVec.ofNat 32 (k.val / 64) + 8#32).toNat = _
    rw [BitVec.toNat_add, BitVec.toNat_ofNat, BitVec.toNat_ofNat]
    omega
  rw [le_word _ _ _ _ (word_nat (q.val / 64) (by omega)) ha (by omega) (by omega)]
  unfold InBand
  by_cases h1 : k.val / 64 ≤ q.val / 64 <;> by_cases h2 : q.val / 64 ≤ k.val / 64 + 8 <;> simp only [h1, h2] <;> rfl

/-- The reference's position in the table of biases. -/
theorem pos_at (q k : Fin 2048) :
    (val_main_v23 (F := Ideal) (ix2 q k) : BitVec 32).toNat = min (q.val + 128 - k.val) 256 := by
  pointwise [val_main_v23, val_main_v22, val_main_v21, val_main_v20, val_main_v19, val_main_v18, val_main_v17, val_main_v16, val_main_v15, val_main_v14, val_main_v13, val_main_v12, val_main_v11, val_main_v7, val_main_c, val_main_c_0, val_main_c_1, val_main_c_2, val_main_c_3, val_main_call0_v0, val_main_call0_v1, val_main_call0_v2, val_main_call0_v3, val_main_call0_v4]
  have hw := clip_word _ _ _ _ (word_nat q.val (by omega)) (word_nat k.val (by omega)) (by omega) (by omega)
  exact (congrArg BitVec.toNat (wrap_word _ _ _ hw (by omega))).trans hw

/-- The reference's bias. -/
theorem bias_at (h : Fin 4) (q k : Fin 2048) : val_main_v25 (F := Ideal) x1 (ix3 h q k) = bias x1 h q k := by
  unfold val_main_v25
  refine (gather_col (by decide) gather_S4x257_S2048x2048x1_S4x2048x2048_0_1_n_n_1_2_41_wf _ _ h q k).trans ?_
  unfold bias
  refine congrArg (fun u => x1 (ix2 h u : S4x257.Idx)) (Fin.ext ?_)
  refine clamp_nat _ _ ?_ (by omega)
  refine Eq.trans ?_ (pos_at q k)
  refine congrArg BitVec.toNat ?_
  pointwise [val_main_v24]

/-- The reference's values. -/
theorem values_at (b : Fin 32) (k : Fin 2048) (h : Fin 4) (x : Fin 64) :
    val_main_v6 (F := Ideal) x0 (ix4 b k h x) = x0 (ix3 b k ⟨3584 + (64 * h.val + x.val), by omega⟩) := by
  pointwise [val_main_v6, val_main_v3, val_main_v0]
  exact congrArg (fun u => x0 (ix3 b k u : S32x2048x6912.Idx)) (Fin.ext (by show 3072 + (512 + (h.val * 64 + x.val)) = 3584 + (64 * h.val + x.val); omega))

/-- The reference's scores before the mask. -/
theorem raw_at (b : Fin 32) (h : Fin 4) (q k : Fin 2048) :
    val_main_v28 (F := Ideal) x0 x1 (ix4 b h q k)
      = score (fun x => x0 (ix3 b q ⟨3072 + (64 * h.val + x.val), by omega⟩))
      (fun x => x0 (ix3 b k ⟨3328 + (64 * h.val + x.val), by omega⟩)) (bias x1 h q k) := by
  have hb := bias_at x1 h q k
  unfold val_main_v28 val_main_v27 val_main_v26
  generalize val_main_v25 (F := Ideal) x1 = y at hb ⊢
  pointwise [val_main_v10, val_main_v9, val_main_v8, val_main_v5, val_main_v4, val_main_v2, val_main_v1, val_main_v0, val_main_cst]
  rw [hb]
  unfold score
  refine congrArg (fun u => u * Ideal.ofBits .f32 1040187392#32 + bias x1 h q k) (Finset.sum_congr rfl fun x _ => ?_)
  refine congrArg₂ _ (congrArg (fun u => x0 (ix3 b q u : S32x2048x6912.Idx)) (Fin.ext (by show 3072 + (h.val * 64 + x.val) = 3072 + (64 * h.val + x.val); omega))) ?_
  exact congrArg (fun u => x0 (ix3 b k u : S32x2048x6912.Idx)) (Fin.ext (by show 3072 + (256 + (h.val * 64 + x.val)) = 3328 + (64 * h.val + x.val); omega))

/-- The reference's scores. -/
theorem scores_at (b : Fin 32) (h : Fin 4) (q k : Fin 2048) :
    val_main_v44 (F := Ideal) x0 x1 (ix4 b h q k) = rscore x0 x1 b h q k := by
  have hr := raw_at x0 x1 b h q k
  have hm := mask_at q k
  unfold val_main_v44 val_main_call2_v1 val_main_v43
  generalize val_main_v28 (F := Ideal) x0 x1 = y at hr ⊢
  generalize val_main_v42 (F := Ideal) = z at hm ⊢
  pointwise [val_main_call2_v2, val_main_call2_v0, val_main_cst_6]
  rw [hr, hm]
  unfold rscore
  by_cases hc : InBand q k
  · rw [if_pos hc, decide_eq_true hc]; rfl
  · rw [if_neg hc, decide_eq_false hc]; rfl

end Cert.BandR
-- ==== Proof.BandSoft.lean ====
/-
  The prompt's reference normalizes its scores and sums its values.
-/
module
public import proofs.«01_k».proof.Proof.BandRef
@[expose] public section
set_option maxRecDepth 16384
noncomputable section
namespace Cert.BandR
open Cert.BandRefIdeal Cert.BandRefIdeal.Gen Cert.BandRefIdeal.Read Idealize.ShloMosaic Idealize.ShloMosaic.TcCoe Cert.Rows

variable (x0 : Vec Ideal S32x2048x6912 .f32) (x1 : Vec Ideal S4x257 .f32)

theorem top_max {n : Nat} (s : Fin n → EReal) : max low (Finset.fold max low s Finset.univ) = top s := by
  rw [low_eq]; exact max_eq_right bot_le

/-- The greatest element of a row of a four-dimensional array, at any sizes. -/
theorem row_max {n0 n1 n2 n3 : Nat} {u : Shape} (y : (⟨4, ![n0, n1, n2, n3]⟩ : Shape).Idx → EReal) (init : u.Idx → EReal)
    (hr : (⟨4, ![n0, n1, n2, n3]⟩ : Shape).ReducesTo [3] ⟨3, ![n0, n1, n2]⟩) (hu : 0 < u.numel) (b : Fin n0) (h : Fin n1) (q : Fin n2) :
    Host.reduce (α := EReal) max y init hr hu (ix3 b h q)
      = Finset.fold max (init (Shape.Idx.first hu)) (fun k : Fin n3 => y (ix4 b h q k)) Finset.univ :=
  (Host.reduce_eq_fold max y init hr hu (ix3 b h q)).trans (hr.fold_fiber_r4_a3 (ix3 b h q) max _ y)

/-- The reference's greatest element of a row, in two steps: the operation is the maximum; the row is read. -/
theorem row_op (y : Vec Ideal S32x4x2048x2048 .f32) (init : Vec Ideal S_ .f32) :
    Host.reduce (FloatOps.maximumf (F := Ideal) (φ := .f32)) y init reducesTo_S32x4x2048x2048_S32x4x2048_d3 h_S_
     = Host.reduce (α := EReal) max y init reducesTo_S32x4x2048x2048_S32x4x2048_d3 h_S_ := by
  rw [Ideal.maximumf_eq_max]

theorem row_read (b : Fin 32) (h : Fin 4) (q : Fin 2048) (y : Vec Ideal S32x4x2048x2048 .f32) (init : Vec Ideal S_ .f32) :
    Host.reduce (α := EReal) max y init reducesTo_S32x4x2048x2048_S32x4x2048_d3 h_S_ (ix3 b h q)
      = Finset.fold max (init (Shape.Idx.first h_S_)) (fun k : Fin 2048 => y (ix4 b h q k)) Finset.univ :=
  row_max y init reducesTo_S32x4x2048x2048_S32x4x2048_d3 h_S_ b h q

theorem row_stage : val_main_v45 (F := Ideal) x0 x1
     = Host.reduce (FloatOps.maximumf (F := Ideal) (φ := .f32)) (val_main_v44 (F := Ideal) x0 x1) (val_main_cst_7 (F := Ideal)) reducesTo_S32x4x2048x2048_S32x4x2048_d3 h_S_ := by
  unfold val_main_v45
  rfl

theorem low_first : (val_main_cst_7 (F := Ideal)) (Shape.Idx.first h_S_) = low := rfl

/-- The greatest score of a row. -/
theorem max_at (b : Fin 32) (h : Fin 4) (q : Fin 2048) :
    val_main_v45 (F := Ideal) x0 x1 (ix3 b h q) = Finset.fold max low (rscore x0 x1 b h q) Finset.univ := by
  rw [row_stage, row_op, row_read, low_first, funext fun k => scores_at x0 x1 b h q k]

theorem low_row (i : S32x4x2048.Idx) : val_main_v46 (F := Ideal) i = low := by
  rw [val_main_v46_apply]; rfl

theorem max_op (a b : EReal) : (FloatOps.maximumf (F := Ideal) (φ := .f32)) a b = max a b := rfl

/-- The reference's greatest score. -/
theorem top_at (b : Fin 32) (h : Fin 4) (q : Fin 2048) :
    val_main_v47 (F := Ideal) x0 x1 (ix3 b h q) = top (rscore x0 x1 b h q) :=
  (val_main_v47_apply x0 x1 (ix3 b h q)).trans
    ((congrArg₂ (FloatOps.maximumf (F := Ideal) (φ := .f32)) (low_row (ix3 b h q)) (max_at x0 x1 b h q)).trans
      ((max_op low _).trans (top_max _)))

/-- The reference's weights. -/
theorem weight_at (b : Fin 32) (h : Fin 4) (q k : Fin 2048) :
    val_main_v51 (F := Ideal) x0 x1 (ix4 b h q k) = weight (rscore x0 x1 b h q) k := by
  have hy := scores_at x0 x1 b h q k
  have ht := top_at x0 x1 b h q
  unfold val_main_v51 val_main_v50 val_main_v49 val_main_v48
  generalize val_main_v44 (F := Ideal) x0 x1 = y at hy ⊢
  generalize val_main_v47 (F := Ideal) x0 x1 = z at ht ⊢
  pointwise
  rw [hy, ht]
  rfl

/-- The reference's sum of weights. -/
theorem total_at (b : Fin 32) (h : Fin 4) (q : Fin 2048) :
    val_main_v52 (F := Ideal) x0 x1 (ix3 b h q) = ∑ k, weight (rscore x0 x1 b h q) k := by
  have hy := fun k => weight_at x0 x1 b h q k
  unfold val_main_v52
  generalize val_main_v51 (F := Ideal) x0 x1 = y at hy ⊢
  pointwise [val_main_cst_9]
  exact Finset.sum_congr rfl fun k _ => hy k

/-- The reference's normalized weights. -/
theorem share_at (b : Fin 32) (h : Fin 4) (q k : Fin 2048) :
    val_main_v55 (F := Ideal) x0 x1 (ix4 b h q k)
      = Ideal.div (weight (rscore x0 x1 b h q) k) (∑ k, weight (rscore x0 x1 b h q) k) := by
  have hy := weight_at x0 x1 b h q k
  have ht := total_at x0 x1 b h q
  unfold val_main_v55 val_main_v54 val_main_v53
  generalize val_main_v51 (F := Ideal) x0 x1 = y at hy ⊢
  generalize val_main_v52 (F := Ideal) x0 x1 = z at ht ⊢
  pointwise
  rw [hy, ht]

/-- The reference's result: the sum of the values, each times its normalized weight. -/
theorem ref_at (b : Fin 32) (q : Fin 2048) (h : Fin 4) (x : Fin 64) :
    val_main_v58 (F := Ideal) x0 x1 (ix3 b q ⟨64 * h.val + x.val, by omega⟩)
      = ∑ k : Fin 2048, x0 (ix3 b k ⟨3584 + (64 * h.val + x.val), by omega⟩)
          * Ideal.div (weight (rscore x0 x1 b h q) k) (∑ k, weight (rscore x0 x1 b h q) k) := by
  have hy := fun k => share_at x0 x1 b h q k
  have hz := fun k => values_at x0 b k h x
  unfold val_main_v58 val_main_v57 val_main_v56
  generalize val_main_v55 (F := Ideal) x0 x1 = y at hy ⊢
  generalize val_main_v6 (F := Ideal) x0 = z at hz ⊢
  pointwise
  refine Finset.sum_congr rfl fun k _ => ?_
  rw [← hy k, ← hz k]

end Cert.BandR
-- ==== Proof.BandEq.lean ====
/-
  The prompt's kernel and its reference end with equal results.
-/
module
public import proofs.«01_k».proof.Defs
public import proofs.«01_k».proof.Proof.Finite
public import proofs.«01_k».proof.Proof.BandArray
public import proofs.«01_k».proof.Proof.BandSoft
public import proofs.«01_k».proof.Proof.Gen.BandRefIdeal
public import Idealize.ShloMosaic.Lib.Claim
public import Idealize.ShloMosaic.Lib.Quiescent
@[expose] public section
set_option maxRecDepth 16384
noncomputable section
namespace Cert.BandE
open Idealize.ShloMosaic Idealize.ShloMosaic.TcCoe Cert.Rows Cert.BandV Cert.BandR

variable (p : Vec Ideal Cert.BandIdeal.S32x2048x6912 .f32) (t : Vec Ideal Cert.BandIdeal.S4x257 .f32)

/-- The position in the sequence of a key of the window of chunk `ci`. -/
def place (ci : Fin 32) (j : Fin 576) : Fin 2048 := ⟨64 * ci.val + j.val - 512, by omega⟩

/-- Query `r` of chunk `ci`. -/
def query (ci : Fin 32) (r : Fin 64) : Fin 2048 := ⟨64 * ci.val + r.val, by omega⟩

theorem in_band (ci : Fin 32) (r : Fin 64) (j : Fin 576) (hj : 512 ≤ 64 * ci.val + j.val) : InBand (query ci r) (place ci j) := by
  show (64 * ci.val + j.val - 512) / 64 ≤ (64 * ci.val + r.val) / 64 ∧ (64 * ci.val + r.val) / 64 ≤ (64 * ci.val + j.val - 512) / 64 + 8
  omega

/-- A query's unmasked score with a key of its window is its score over the sequence. -/
theorem window_score (b : Fin 32) (h : Fin 4) (ci : Fin 32) (r : Fin 64) (j : Fin 576) (hj : 512 ≤ 64 * ci.val + j.val) :
    rscore p t b h (query ci r) (place ci j) = wscore p t b h ci r j := by
  unfold rscore wscore
  rw [if_pos (in_band ci r j hj), dif_pos hj]
  refine congrArg (score _ _) ?_
  unfold bias rel
  refine congrArg (fun u => t (ix2 h u : Cert.BandIdeal.S4x257.Idx)) (Fin.ext ?_)
  show min (64 * ci.val + r.val + 128 - (64 * ci.val + j.val - 512)) 256 = min (r.val + 640 - j.val) 256
  omega

theorem unmasked (b : Fin 32) (h : Fin 4) (ci : Fin 32) (r : Fin 64) (j : Fin 576) (hj : wscore p t b h ci r j ≠ ⊥) :
    512 ≤ 64 * ci.val + j.val := by
  by_contra hc
  refine hj ?_
  unfold wscore
  rw [dif_neg hc, low_eq]

/-- The test passed, every unmasked score is real. -/
theorem window_fit (hp : Cert.Pre_band_finite.fn (F := Ideal) p t = fun _ => 1#1) (b : Fin 32) (h : Fin 4) (ci : Fin 32) (r : Fin 64) :
    Fit (wscore p t b h ci r) := by
  obtain ⟨h0, h1⟩ := band_real p t hp
  have hr : ∀ j : Fin 576, 512 ≤ 64 * ci.val + j.val → Real' (wscore p t b h ci r j) := by
    intro j hj
    unfold wscore
    rw [dif_pos hj]
    refine score_real (fun x => h0 b _ ⟨64 * h.val + x.val, by omega⟩) (fun x => ?_) (h1 _)
    refine cast (congrArg Real' (congrArg p ?_)) (h0 b ⟨64 * ci.val + j.val - 512, by omega⟩ ⟨256 + (64 * h.val + x.val), by omega⟩)
    exact congrArg (fun u => (ix3 b _ u : Cert.BandIdeal.S32x2048x6912.Idx)) (Fin.ext (by show 3072 + (256 + (64 * h.val + x.val)) = 3328 + (64 * h.val + x.val); omega))
  refine ⟨fun j => ?_, ⟨512, by omega⟩, (hr _ (by show 512 ≤ 64 * ci.val + 512; omega)).ne_bot⟩
  by_cases hj : 512 ≤ 64 * ci.val + j.val
  · exact (hr j hj).ne_top
  · unfold wscore
    rw [dif_neg hj, low_eq]
    exact bot_ne_top

/-- A query attends over its window as over the whole sequence. -/
theorem window_row (hp : Cert.Pre_band_finite.fn (F := Ideal) p t = fun _ => 1#1) (b : Fin 32) (h : Fin 4) (ci : Fin 32) (r : Fin 64) (x : Fin 64) :
    Fit (rscore p t b h (query ci r))
      ∧ attend (wscore p t b h ci r) (wval p b h ci x)
        = attend (rscore p t b h (query ci r)) fun k => p (ix3 b k ⟨3584 + (64 * h.val + x.val), by omega⟩) := by
  refine attend_window (place ci) (window_fit p t hp b h ci r) (fun j hj => ?_) (fun k hk => ?_) (fun j j' hj hj' he => ?_)
  · have hu := unmasked p t b h ci r j hj
    refine ⟨window_score p t b h ci r j hu, ?_⟩
    unfold wval
    rw [dif_pos hu]
    rfl
  · have hb : InBand (query ci r) k := by
      by_contra hc
      refine hk ?_
      unfold rscore
      rw [if_neg hc, low_eq]
    have hb' : k.val / 64 ≤ (64 * ci.val + r.val) / 64 ∧ (64 * ci.val + r.val) / 64 ≤ k.val / 64 + 8 := hb
    have hj : k.val + 512 - 64 * ci.val < 576 := by omega
    have hu : 512 ≤ 64 * ci.val + (⟨k.val + 512 - 64 * ci.val, hj⟩ : Fin 576).val := by
      show 512 ≤ 64 * ci.val + (k.val + 512 - 64 * ci.val); omega
    have hc : place ci ⟨k.val + 512 - 64 * ci.val, hj⟩ = k :=
      Fin.ext (by show 64 * ci.val + (k.val + 512 - 64 * ci.val) - 512 = k.val; omega)
    refine ⟨⟨k.val + 512 - 64 * ci.val, hj⟩, hc, ?_⟩
    have hw := window_score p t b h ci r _ hu
    rw [hc] at hw
    exact hw.symm
  · have hu := unmasked p t b h ci r j hj
    have hu' := unmasked p t b h ci r j' hj'
    have hv : 64 * ci.val + j.val - 512 = 64 * ci.val + j'.val - 512 := congrArg Fin.val he
    exact Fin.ext (by omega)

/-- The two result arrays agree when the arguments do. -/
theorem result_eq (m : (ℓ : Loc Cert.BandIdeal.nD Cert.BandIdeal.τ Cert.BandIdeal.sig) → Buf (Elt Ideal) ℓ)
    (hp : Cert.Pre_BandIdeal_band_finite m) (c : Dev Cert.BandIdeal.nD) :
    Cert.BandRefIdeal.Read.val_main_v58 (F := Ideal)
        (m ((c.tc : Thread Cert.BandIdeal.nD Cert.BandIdeal.τ).loc Cert.BandIdeal.main_arg0))
        (m ((c.tc : Thread Cert.BandIdeal.nD Cert.BandIdeal.τ).loc Cert.BandIdeal.main_arg1))
      = (Cert.BandIdeal.Gen.dats m 0 c).arrAt 4 Cert.BandIdeal.cfg0.N := by
  funext i
  obtain ⟨b, q, k, rfl⟩ : ∃ (b : Fin 32) (q : Fin 2048) (k : Fin 256), i = ix3 b q k := ⟨i 0, i 1, i 2, ValueIdx.eq_ix3 i⟩
  have hk : k = ⟨64 * (⟨k.val / 64, by omega⟩ : Fin 4).val + (⟨k.val % 64, by omega⟩ : Fin 64).val, by show 64 * (k.val / 64) + k.val % 64 < 256; omega⟩ :=
    Fin.ext (by show k.val = 64 * (k.val / 64) + k.val % 64; omega)
  have hq : q = query ⟨q.val / 64, by omega⟩ ⟨q.val % 64, by omega⟩ :=
    Fin.ext (by show q.val = 64 * (q.val / 64) + q.val % 64; omega)
  rw [hk, hq]
  refine (Cert.BandR.ref_at _ _ b _ ⟨k.val / 64, by omega⟩ ⟨k.val % 64, by omega⟩).trans ?_
  refine Eq.trans ?_ (Cert.BandV.arr_at m c b ⟨q.val / 64, by omega⟩ ⟨q.val % 64, by omega⟩ ⟨k.val / 64, by omega⟩ ⟨k.val % 64, by omega⟩).symm
  obtain ⟨hf, he⟩ := window_row _ _ (hp c) b ⟨k.val / 64, by omega⟩ ⟨q.val / 64, by omega⟩ ⟨q.val % 64, by omega⟩ ⟨k.val % 64, by omega⟩
  exact (he.trans (attend_eq hf _)).symm

/-- Kernel and reference, from equal arguments, end with equal results and the arguments unchanged. -/
theorem algebraic : Cert.algebraic_BandIdeal_BandRefIdeal_pre_band_finite := by
  intro m g m' g' hp hag
  refine ⟨fun c => (Cert.BandIdeal.Gen.dats m 0 c).arrAt 4 Cert.BandIdeal.cfg0.N, Cert.BandIdeal.Value.run_blocks m g, ?_⟩
  refine θ_run_mono (Cert.BandRefIdeal.Value.run m' g') fun r h c => ⟨?_, (h c).2⟩
  obtain ⟨h0, h1⟩ := hag c
  rw [(h c).1, Cert.BandRefIdeal.Read.val_main_v58_eq, h0, h1]
  exact result_eq m hp c

end Cert.BandE
-- ==== Proof.StepBlock.lean ====
/-
  One grid point of the decoding step's attention, read at an element of its output block.
-/
module
public import proofs.«01_k».proof.Proof.Attend
public import proofs.«01_k».proof.Proof.Gen.StepIdeal.Value
public import Idealize.ShloMosaic.Lib.Pointwise
public import Idealize.ShloMosaic.Lib.Pipeline.ValueKit
@[expose] public section
set_option maxRecDepth 16384
noncomputable section
namespace Cert.StepV
open Cert.StepIdeal Cert.StepIdeal.Gen Idealize.ShloMosaic Idealize.ShloMosaic.TcCoe Cert.Rows

/-- One head's attention at one query and one lane: the columns of the head begin at `o`. -/
def head (q : Vec Ideal S1x32x256 .f32) (k v : Vec Ideal S1x544x256 .f32) (b : Fin 544 → EReal) (o : Nat) (ho : o ≤ 192)
    (r : Fin 32) (c : Fin 64) : EReal :=
  attend (fun j => score (fun x => q (ix3 0 r ⟨o + x.val, by omega⟩)) (fun x => k (ix3 0 j ⟨o + x.val, by omega⟩)) (b j))
    (fun j => v (ix3 0 j ⟨o + c.val, by omega⟩))

variable (q : Vec Ideal S1x32x256 .f32) (k v : Vec Ideal S1x544x256 .f32) (b : Vec Ideal S1x32x544 .f32) (r : Fin 32) (c : Fin 64)

/-- The first head. -/
theorem head0 : k0_pay6 (F := Ideal) q k v b (ix3 0 r c) = head q k v (fun j => b (ix3 0 r j)) 0 (by omega) r c := by
  pointwise [k0_pay6, k0_pay3, k0_pay4, k0_pay5]
  simp only [head, attend, weight, top, score, zero_add]

/-- The second head. -/
theorem head1 : k0_pay8 (F := Ideal) (k0_pay5 v) (k0_pay7 q k) (Scalar.ofBits .f32 0x3E000000#32) b (ix3 0 r c)
    = head q k v (fun j => b (ix3 0 r j)) 64 (by omega) r c := by
  pointwise [k0_pay8, k0_pay7, k0_pay3, k0_pay4, k0_pay5]
  rfl

/-- The third head. -/
theorem head2 : k0_pay1 (F := Ideal) (k0_pay9 (k0_pay3 q) (k0_pay4 k) (k0_pay5 v) b) (ix3 0 r c)
    = head q k v (fun j => b (ix3 0 r j)) 128 (by omega) r c := by
  pointwise [k0_pay1, k0_pay9, k0_pay3, k0_pay4, k0_pay5]
  rfl

/-- The fourth head. -/
theorem head3 : k0_pay2 (F := Ideal) (k0_pay3 q) (k0_pay4 k) (k0_pay5 v) b (ix3 0 r c)
    = head q k v (fun j => b (ix3 0 r j)) 192 (by omega) r c := by
  pointwise [k0_pay2, k0_pay3, k0_pay4, k0_pay5]
  rfl

/-- One head of four, its bias read from the head's table. -/
def headAt (q : Vec Ideal S1x32x256 .f32) (k v : Vec Ideal S1x544x256 .f32) (b : Vec Ideal S4x32x544 .f32)
    (h : Fin 4) (r : Fin 32) (c : Fin 64) : EReal :=
  head q k v (fun j => b (ix3 h r j)) (64 * h.val) (by omega) r c

/-- The output block: each head's attention in its 64 lanes. -/
def lanes (q : Vec Ideal S1x32x256 .f32) (k v : Vec Ideal S1x544x256 .f32) (b : Vec Ideal S4x32x544 .f32)
    (y : S1x32x256.Idx) : EReal :=
  headAt q k v b ⟨(y 2).val / 64, by have : (y 2).val < 256 := (y 2).isLt; omega⟩ (y 1) ⟨(y 2).val % 64, by omega⟩

theorem lanes_of (q : Vec Ideal S1x32x256 .f32) (k v : Vec Ideal S1x544x256 .f32) (b : Vec Ideal S4x32x544 .f32)
    (h : Fin 4) (r : Fin 32) (c : Fin 64) (y : S1x32x256.Idx) (h1 : y 1 = r) (h2 : (y 2).val = 64 * h.val + c.val) :
    lanes q k v b y = headAt q k v b h r c := by
  unfold lanes
  have e1 : (⟨(y 2).val / 64, by have : (y 2).val < 256 := (y 2).isLt; omega⟩ : Fin 4) = h := Fin.ext (by show (y 2).val / 64 = _; omega)
  have e2 : (⟨(y 2).val % 64, by omega⟩ : Fin 64) = c := Fin.ext (by show (y 2).val % 64 = _; omega)
  rw [e1, e2, h1]

/-- A head's table of biases, read through its window. -/
theorem bias_ld (b : Vec Ideal S4x32x544 .f32) (o : Nat) (inb) (h : Fin 4) (ho : h.val = o) (r : Fin 32) (j : Fin 544) :
    View.ld b (Rect.unit (s := S4x32x544) ![o, 0, 0] S1x32x544.size inb) (ix3 0 r j : S1x32x544.Idx) = b (ix3 h r j) :=
  View.ld_unit_apply_of b _ _ _ _ _ fun a => by
    match a with
    | ⟨0, _⟩ => show h.val = o + 0; omega
    | ⟨1, _⟩ => show r.val = 0 + r.val; omega
    | ⟨2, _⟩ => show j.val = 0 + j.val; omega

/-- The place of a head's tile in the output block. -/
theorem lanes_tile (q : Vec Ideal S1x32x256 .f32) (k v : Vec Ideal S1x544x256 .f32) (b : Vec Ideal S4x32x544 .f32)
    (o : Nat) (inb) (h : Fin 4) (ho : 64 * h.val = o) (r : Fin 32) (c : Fin 64) :
    lanes q k v b ((Rect.unit (s := S1x32x256) ![0, 0, o] S1x32x64.size inb).emb (ix3 0 r c : S1x32x64.Idx)) = headAt q k v b h r c := by
  refine lanes_of q k v b h r c _ (Fin.ext ?_) ?_
  · refine (Idealize.ShloMosaic.ValueKit.rect_emb_unit_val _ _ _ _ _).trans ?_
    show 0 + r.val = r.val
    omega
  · refine (Idealize.ShloMosaic.ValueKit.rect_emb_unit_val _ _ _ _ _).trans ?_
    show o + c.val = _
    omega

/-- What one grid point computes: each head's attention in its 64 lanes. -/
theorem out_at (q : Vec Ideal S1x32x256 .f32) (k v : Vec Ideal S1x544x256 .f32) (b : Vec Ideal S4x32x544 .f32)
    (r : Fin 32) (h : Fin 4) (c : Fin 64) :
    out0_4 (F := Ideal) q k v b (ix3 0 r ⟨64 * h.val + c.val, by omega⟩) = headAt q k v b h r c := by
  rw [← lanes_of q k v b h r c (ix3 0 r ⟨64 * h.val + c.val, by omega⟩ : S1x32x256.Idx) rfl rfl]
  unfold out0_4
  refine View.canon_apply_of_pieces (Val := Elt Ideal) (S := S1x32x256) (e := .f32) (lanes q k v b) _ ?_ _ ?_
  · intro p hp
    simp only [List.mem_cons, List.not_mem_nil, or_false] at hp
    have q0 : View.ld q r0_0 = q := View.ld_unit_zero (by decide) _ _
    have k0 : View.ld k r0_1 = k := View.ld_unit_zero (by decide) _ _
    have v0 : View.ld v r0_1 = v := View.ld_unit_zero (by decide) _ _
    rcases hp with rfl | rfl | rfl | rfl <;> intro x <;>
      (obtain ⟨u, r, c, rfl⟩ : ∃ (u : Fin 1) (r : Fin 32) (c : Fin 64), x = (ix3 u r c : S1x32x64.Idx) := ⟨x 0, x 1, x 2, ValueIdx.eq_ix3 x⟩) <;>
      (obtain rfl : u = 0 := Subsingleton.elim _ _)
    · refine Eq.trans ?_ (lanes_tile q k v b 192 inb_S1x32x256_S1x32x64_0_0_192 3 rfl r c).symm
      unfold k0_pay10 k0_pay11 k0_pay12
      rw [q0, k0, v0]
      exact (head3 q k v _ r c).trans (congrArg (fun b => head q k v b 192 (by omega) r c) (funext fun j => bias_ld b 3 _ 3 rfl r j))
    · refine Eq.trans ?_ (lanes_tile q k v b 128 inb_S1x32x256_S1x32x64_0_0_128 2 rfl r c).symm
      unfold k0_pay10 k0_pay11 k0_pay12
      rw [q0, k0, v0]
      exact (head2 q k v _ r c).trans (congrArg (fun b => head q k v b 128 (by omega) r c) (funext fun j => bias_ld b 2 _ 2 rfl r j))
    · refine Eq.trans ?_ (lanes_tile q k v b 64 inb_S1x32x256_S1x32x64_0_0_64 1 rfl r c).symm
      unfold k0_pay12
      rw [q0, k0, v0]
      exact (head1 q k v _ r c).trans (congrArg (fun b => head q k v b 64 (by omega) r c) (funext fun j => bias_ld b 1 _ 1 rfl r j))
    · refine Eq.trans ?_ (lanes_tile q k v b 0 inb_S1x32x256_S1x32x64_0_0_0 0 rfl r c).symm
      rw [q0, k0, v0]
      exact (head0 q k v _ r c).trans (congrArg (fun b => head q k v b 0 (by omega) r c) (funext fun j => bias_ld b 0 _ 0 rfl r j))
  · exact cover0_4 _ _ _ _ _

end Cert.StepV
-- ==== Proof.StepTable.lean ====
/-
  The printed table of relative distances of the decoding step, entry by entry.
-/
module
public import proofs.«01_k».proof.StepIdeal
public import proofs.«01_k».proof.Proof.Every
@[expose] public section
set_option maxRecDepth 16384
noncomputable section
namespace Cert.StepT
open Cert.Rows

/-- Entry `i` of the table is the clipped distance of row `i / 544` to column `i % 544`. -/
def entryOk (i : Nat) : Bool :=
  Nat.beq (Cert.StepIdeal.lit0t i).toNat (min (i / 544 + 640 - i % 544) 256)

theorem blk0 : every entryOk 12 0 = true := by decide +kernel
theorem blk1 : every entryOk 12 4096 = true := by decide +kernel
theorem blk2 : every entryOk 12 8192 = true := by decide +kernel
theorem blk3 : every entryOk 12 12288 = true := by decide +kernel
theorem blk4 : every entryOk 10 16384 = true := by decide +kernel

/-- Every entry of the table. -/
theorem entry_nat (i : Nat) (h : i < 17408) :
    (Cert.StepIdeal.lit0t i).toNat = min (i / 544 + 640 - i % 544) 256 := by
  have key : entryOk i = true := by
    by_cases h0 : i < 4096
    · exact every_at _ 12 0 blk0 i (by omega) (by omega)
    by_cases h1 : i < 8192
    · exact every_at _ 12 4096 blk1 i (by omega) (by omega)
    by_cases h2 : i < 12288
    · exact every_at _ 12 8192 blk2 i (by omega) (by omega)
    by_cases h3 : i < 16384
    · exact every_at _ 12 12288 blk3 i (by omega) (by omega)
    exact every_at _ 10 16384 blk4 i (by omega) (by omega)
  exact Nat.eq_of_beq_eq_true key

end Cert.StepT
-- ==== Proof.StepArray.lean ====
/-
  What the decoding step's output array holds after the run.
-/
module
public import proofs.«01_k».proof.Proof.StepBlock
public import proofs.«01_k».proof.Proof.StepTable
public import proofs.«01_k».proof.Proof.Gather
public import Idealize.ShloMosaic.Lib.Claim
@[expose] public section
set_option maxRecDepth 16384
noncomputable section
namespace Cert.StepV
open Cert.StepIdeal Cert.StepIdeal.Gen Idealize.ShloMosaic Idealize.ShloMosaic.TcCoe Cert.Rows

/-- The keys or the values of one sample: the cached ones, then the new ones at column `o` of the projection. -/
def joined (p : Vec Ideal S16x32x6912 .f32) (cache : Vec Ideal S16x512x4x64 .f32) (o : Nat) (ho : o ≤ 3584)
    (b : Fin 16) (h : Fin 4) (j : Fin 544) (x : Fin 64) : EReal :=
  if hj : j.val < 512 then cache (ix4 b ⟨j.val, hj⟩ h x)
  else p (ix3 b ⟨j.val - 512, by omega⟩ ⟨o + (64 * h.val + x.val), by omega⟩)

/-- The bias of query `r` and key `j` in head `h`. -/
def rel (t : Vec Ideal S4x257 .f32) (h : Fin 4) (r : Fin 32) (j : Fin 544) : EReal :=
  t (ix2 h ⟨min (r.val + 640 - j.val) 256, by omega⟩)

/-- The scores of one query of one head. -/
def scores (p : Vec Ideal S16x32x6912 .f32) (ck : Vec Ideal S16x512x4x64 .f32) (t : Vec Ideal S4x257 .f32)
    (b : Fin 16) (h : Fin 4) (r : Fin 32) (j : Fin 544) : EReal :=
  score (fun x => p (ix3 b r ⟨3072 + (64 * h.val + x.val), by omega⟩)) (joined p ck 3328 (by omega) b h j) (rel t h r j)

variable (m : (ℓ : Loc nD τ sig) → Buf (Elt Ideal) ℓ)

theorem entry_k (c : Dev nD) (b : Fin 16) (j : Fin 544) (h : Fin 4) (x : Fin 64) :
    V m c main_v3 (ix3 b j ⟨64 * h.val + x.val, by omega⟩)
      = joined (m ((c : Thread nD τ).loc main_arg0)) (m ((c : Thread nD τ).loc main_arg1)) 3328 (by omega) b h j x := by
  show StableHlo.after (List.flatten [hostOps0]) (fun b => m (c, b)) (Proc.devRef .tc main_v3) (ix3 b j ⟨64 * h.val + x.val, by omega⟩) = _
  simp only [hostOps0, List.flatten_cons, List.flatten_nil, List.append_nil, List.cons_append, List.nil_append]
  after_results
  pointwise
  unfold joined
  refine dite_congr rfl (fun _ => ?_) fun _ => rfl
  refine congrArg (m (c, Proc.tc.devRef main_arg1)) ?_
  refine congrArg₂ (fun u v => (ix4 b _ u v : S16x512x4x64.Idx)) (Fin.ext ?_) (Fin.ext ?_)
  · show (64 * h.val + x.val) / 64 = h.val
    omega
  · show (64 * h.val + x.val) % 64 = x.val
    omega

theorem entry_v (c : Dev nD) (b : Fin 16) (j : Fin 544) (h : Fin 4) (x : Fin 64) :
    V m c main_v5 (ix3 b j ⟨64 * h.val + x.val, by omega⟩)
      = joined (m ((c : Thread nD τ).loc main_arg0)) (m ((c : Thread nD τ).loc main_arg2)) 3584 (by omega) b h j x := by
  show StableHlo.after (List.flatten [hostOps0]) (fun b => m (c, b)) (Proc.devRef .tc main_v5) (ix3 b j ⟨64 * h.val + x.val, by omega⟩) = _
  simp only [hostOps0, List.flatten_cons, List.flatten_nil, List.append_nil, List.cons_append, List.nil_append]
  after_results
  pointwise
  unfold joined
  refine dite_congr rfl (fun _ => ?_) fun _ => rfl
  refine congrArg (m (c, Proc.tc.devRef main_arg2)) ?_
  refine congrArg₂ (fun u v => (ix4 b _ u v : S16x512x4x64.Idx)) (Fin.ext ?_) (Fin.ext ?_)
  · show (64 * h.val + x.val) / 64 = h.val
    omega
  · show (64 * h.val + x.val) % 64 = x.val
    omega

theorem entry_b (c : Dev nD) (h : Fin 4) (r : Fin 32) (j : Fin 544) :
    V m c main_v10 (ix3 h r j) = rel (m ((c : Thread nD τ).loc main_arg3)) h r j := by
  show StableHlo.after (List.flatten [hostOps0]) (fun b => m (c, b)) (Proc.devRef .tc main_v10) (ix3 h r j) = _
  simp only [hostOps0, List.flatten_cons, List.flatten_nil, List.append_nil, List.cons_append, List.nil_append]
  after_results
  refine (gather_col (by decide) gather_S4x257_S32x544x1_S4x32x544_0_1_n_n_1_2_41_wf _ _ h r j).trans ?_
  unfold rel
  refine congrArg (fun u => m ((c : Thread nD τ).loc main_arg3) (ix2 h u : S4x257.Idx)) (Fin.ext ?_)
  refine clamp_nat _ _ ?_ (by omega)
  have e : (S32x544.rowMajor (ix2 r j : S32x544.Idx)).val = r.val * 544 + j.val := by
    rw [Shape.rowMajor_val_two]
    rfl
  show (lit0t (S32x544.rowMajor (ix2 r j : S32x544.Idx)).val).toNat = _
  rw [e, StepT.entry_nat _ (by omega)]
  congr 1
  omega

/-- Grid point `t` reads sample `t` of the projection, its columns from 3072 on. -/
theorem idx0 : ∀ t : Fin cfg0.N, win0_0.index t 0 = t.val ∧ win0_0.index t 1 = 0 ∧ win0_0.index t 2 = 12 :=
  (by decide +kernel : ∀ t : Fin grid0.N, win0_0.index t 0 = t.val ∧ win0_0.index t 1 = 0 ∧ win0_0.index t 2 = 12)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- The queries' block at point `t`, read from the projection. -/
theorem blk0_at (c : Dev nD) (t : Fin cfg0.N) (r : Fin 32) (k : Fin 256) :
    iblk m c 0 t (ix3 0 r k) = m ((c : Thread nD τ).loc main_arg0) (ix3 ⟨t.val, t.isLt⟩ r ⟨3072 + k.val, by omega⟩ : S16x32x6912.Idx) := by
  unfold iblk
  rw [View.read_apply]
  entry_read
  refine congrArg (m ((c : Thread nD τ).loc main_arg0)) ?_
  funext a
  refine Fin.ext ?_
  match a with
  | ⟨0, _⟩ =>
    refine (win0_0.rect_emb_val t (ix3 0 r k : S1x32x256.Idx) 0).trans ?_
    rw [(idx0 t).1]
    show t.val * 1 + 0 = t.val
    omega
  | ⟨1, _⟩ => exact win0_0.rect_emb_val_of_index_zero t 1 (idx0 t).2.1 (ix3 0 r k : S1x32x256.Idx)
  | ⟨2, _⟩ =>
    refine (win0_0.rect_emb_val t (ix3 0 r k : S1x32x256.Idx) 2).trans ?_
    rw [(idx0 t).2.2]
    show 12 * 256 + k.val = 3072 + k.val
    omega

/-- The keys' block at point `t`. -/
theorem blk1_at (c : Dev nD) (t : Fin cfg0.N) (j : Fin 544) (h : Fin 4) (x : Fin 64) :
    iblk m c 1 t (ix3 0 j ⟨64 * h.val + x.val, by omega⟩)
      = joined (m ((c : Thread nD τ).loc main_arg0)) (m ((c : Thread nD τ).loc main_arg1)) 3328 (by omega) ⟨t.val, t.isLt⟩ h j x := by
  rw [← entry_k m c ⟨t.val, t.isLt⟩ j h x]
  unfold iblk
  rw [View.read_apply]
  refine congrArg (V m c main_v3) ?_
  funext a
  refine Fin.ext ?_
  match a with
  | ⟨0, _⟩ =>
    refine (win0_1.rect_emb_val t (ix3 0 j ⟨64 * h.val + x.val, by omega⟩ : S1x544x256.Idx) 0).trans ?_
    rw [(idx1 t).1]
    show t.val * 1 + 0 = t.val
    omega
  | ⟨1, _⟩ => exact win0_1.rect_emb_val_of_index_zero t 1 (idx1 t).2.1 (ix3 0 j ⟨64 * h.val + x.val, by omega⟩ : S1x544x256.Idx)
  | ⟨2, _⟩ => exact win0_1.rect_emb_val_of_index_zero t 2 (idx1 t).2.2 (ix3 0 j ⟨64 * h.val + x.val, by omega⟩ : S1x544x256.Idx)

/-- The values' block at point `t`. -/
theorem blk2_at (c : Dev nD) (t : Fin cfg0.N) (j : Fin 544) (h : Fin 4) (x : Fin 64) :
    iblk m c 2 t (ix3 0 j ⟨64 * h.val + x.val, by omega⟩)
      = joined (m ((c : Thread nD τ).loc main_arg0)) (m ((c : Thread nD τ).loc main_arg2)) 3584 (by omega) ⟨t.val, t.isLt⟩ h j x := by
  rw [← entry_v m c ⟨t.val, t.isLt⟩ j h x]
  unfold iblk
  rw [View.read_apply]
  refine congrArg (V m c main_v5) ?_
  funext a
  refine Fin.ext ?_
  match a with
  | ⟨0, _⟩ =>
    refine (win0_2.rect_emb_val t (ix3 0 j ⟨64 * h.val + x.val, by omega⟩ : S1x544x256.Idx) 0).trans ?_
    rw [(idx2 t).1]
    show t.val * 1 + 0 = t.val
    omega
  | ⟨1, _⟩ => exact win0_2.rect_emb_val_of_index_zero t 1 (idx2 t).2.1 (ix3 0 j ⟨64 * h.val + x.val, by omega⟩ : S1x544x256.Idx)
  | ⟨2, _⟩ => exact win0_2.rect_emb_val_of_index_zero t 2 (idx2 t).2.2 (ix3 0 j ⟨64 * h.val + x.val, by omega⟩ : S1x544x256.Idx)

/-- The table of biases, staged whole. -/
theorem blk3_at (c : Dev nD) (t : Fin cfg0.N) (h : Fin 4) (r : Fin 32) (j : Fin 544) :
    iblk m c 3 t (ix3 h r j) = rel (m ((c : Thread nD τ).loc main_arg3)) h r j := by
  rw [← entry_b m c h r j]
  unfold iblk
  rw [View.read_apply]
  refine congrArg (V m c main_v10) ?_
  funext a
  exact Fin.ext (win0_3.rect_emb_val_of_index_zero t a (by match a with | ⟨0, _⟩ => rfl | ⟨1, _⟩ => rfl | ⟨2, _⟩ => rfl) (ix3 h r j : S4x32x544.Idx))

/-- The place of point `t`'s block in the output array. -/
theorem emb4 (t : Fin cfg0.N) (r : Fin 32) (k : Fin 256) :
    ((cfg0.win 4).blk t).view.emb (ix3 0 r k : S1x32x256.Idx) = (ix3 ⟨t.val, t.isLt⟩ r k : S16x32x256.Idx) := by
  funext a
  refine Fin.ext ?_
  match a with
  | ⟨0, _⟩ =>
    refine (win0_4.rect_emb_val t (ix3 0 r k : S1x32x256.Idx) 0).trans ?_
    rw [(idx4 t).1]
    show t.val * 1 + 0 = t.val
    omega
  | ⟨1, _⟩ => exact win0_4.rect_emb_val_of_index_zero t 1 (idx4 t).2.1 (ix3 0 r k : S1x32x256.Idx)
  | ⟨2, _⟩ => exact win0_4.rect_emb_val_of_index_zero t 2 (idx4 t).2.2 (ix3 0 r k : S1x32x256.Idx)

/-- An element of the final array under block `t` is what point `t` computed there. -/
theorem arr_blk (c : Dev nD) (t : Fin cfg0.N) (y : S1x32x256.Idx) :
    (dats m 0 c).arrAt 4 cfg0.N (((cfg0.win 4).blk t).view.emb y)
      = out0_4 (F := Ideal) (iblk m c 0 t) (iblk m c 1 t) (iblk m c 2 t) (iblk m c 3 t) y := by
  have h := congrFun ((Value.blocks4 m c t (flush0_4 t)).trans (Value.flushed4 m c t)) y
  rw [View.read_apply] at h
  exact h

/-- The final array: each head's attention over the cached and the new keys. -/
theorem arr_at (c : Dev nD) (b : Fin 16) (r : Fin 32) (h : Fin 4) (x : Fin 64) :
    (dats m 0 c).arrAt 4 cfg0.N (ix3 b r ⟨64 * h.val + x.val, by omega⟩ : S16x32x256.Idx)
      = attend (scores (m ((c : Thread nD τ).loc main_arg0)) (m ((c : Thread nD τ).loc main_arg1)) (m ((c : Thread nD τ).loc main_arg3)) b h r)
          (fun j => joined (m ((c : Thread nD τ).loc main_arg0)) (m ((c : Thread nD τ).loc main_arg2)) 3584 (by omega) b h j x) := by
  obtain ⟨t, rfl⟩ : ∃ t : Fin cfg0.N, b = ⟨t.val, t.isLt⟩ := ⟨⟨b.val, b.isLt⟩, rfl⟩
  rw [← emb4, arr_blk, out_at]
  unfold headAt head
  simp only [blk0_at, blk1_at, blk2_at, blk3_at]
  rfl

end Cert.StepV
-- ==== Proof.StepRef.lean ====
/-
  What the decoding step's reference computes, at an element.
-/
module
public import proofs.«01_k».proof.Proof.StepArray
public import proofs.«01_k».proof.Proof.Clip
public import proofs.«01_k».proof.Proof.Gen.StepRefIdeal.Read
public import Idealize.ShloMosaic.Lib.Pointwise
@[expose] public section
set_option maxRecDepth 16384
noncomputable section
namespace Cert.StepR
open Cert.StepRefIdeal Cert.StepRefIdeal.Gen Cert.StepRefIdeal.Read Idealize.ShloMosaic Idealize.ShloMosaic.TcCoe Cert.Rows Cert.StepV

variable (x0 : Vec Ideal S16x32x6912 .f32) (x1 x2 : Vec Ideal S16x512x4x64 .f32) (x3 : Vec Ideal S4x257 .f32)

/-- The reference's position in the table of biases. -/
theorem pos_at (r : Fin 32) (j : Fin 544) :
    (val_main_v30 (F := Ideal) (ix2 r j) : BitVec 32).toNat = min (r.val + 640 - j.val) 256 := by
  pointwise [val_main_v30, val_main_v29, val_main_v28, val_main_v27, val_main_v26, val_main_v25, val_main_v24, val_main_v23, val_main_v22, val_main_v21, val_main_v20, val_main_v19, val_main_v18, val_main_v14, val_main_v13, val_main_v12, val_main_v11, val_main_v10, val_main_v9, val_main_c, val_main_c_0, val_main_c_1, val_main_c_2, val_main_c_3, val_main_c_4, val_main_c_5, val_main_call0_v0, val_main_call0_v1, val_main_call0_v2, val_main_call0_v3, val_main_call0_v4]
  have hp : (IntOp.addi 4096#32 (BitVec.ofNat 32 r.val)).toNat = 4096 + r.val := by
    show (4096#32 + BitVec.ofNat 32 r.val).toNat = _
    rw [BitVec.toNat_add, BitVec.toNat_ofNat, BitVec.toNat_ofNat]
    omega
  have hq : (IntOp.addi 3584#32 (BitVec.ofNat 32 j.val)).toNat = 3584 + j.val := by
    show (3584#32 + BitVec.ofNat 32 j.val).toNat = _
    rw [BitVec.toNat_add, BitVec.toNat_ofNat, BitVec.toNat_ofNat]
    omega
  have hw := clip_word _ _ _ _ hp hq (by omega) (by omega)
  refine (congrArg BitVec.toNat (wrap_word _ _ _ hw (by omega))).trans (hw.trans ?_)
  omega

/-- The reference's bias. -/
theorem bias_at (h : Fin 4) (r : Fin 32) (j : Fin 544) : val_main_v32 (F := Ideal) x3 (ix3 h r j) = rel x3 h r j := by
  unfold val_main_v32
  refine (gather_col (by decide) gather_S4x257_S32x544x1_S4x32x544_0_1_n_n_1_2_41_wf _ _ h r j).trans ?_
  unfold rel
  refine congrArg (fun u => x3 (ix2 h u : S4x257.Idx)) (Fin.ext ?_)
  refine clamp_nat _ _ ?_ (by omega)
  refine Eq.trans ?_ (pos_at r j)
  refine congrArg BitVec.toNat ?_
  pointwise [val_main_v31]

/-- The reference's values, cached and new. -/
theorem values_at (b : Fin 16) (j : Fin 544) (h : Fin 4) (x : Fin 64) :
    val_main_v8 (F := Ideal) x0 x2 (ix4 b j h x) = joined x0 x2 3584 (by omega) b h j x := by
  pointwise [val_main_v8, val_main_v6, val_main_v3, val_main_v0]
  unfold joined
  refine dite_congr rfl (fun _ => rfl) fun _ => ?_
  exact congrArg (fun u => x0 (ix3 b _ u : S16x32x6912.Idx)) (Fin.ext (by show 3072 + (512 + (h.val * 64 + x.val)) = 3584 + (64 * h.val + x.val); omega))

/-- The reference's scores. -/
theorem scores_at (b : Fin 16) (h : Fin 4) (r : Fin 32) (j : Fin 544) :
    val_main_v35 (F := Ideal) x0 x1 x3 (ix4 b h r j) = scores x0 x1 x3 b h r j := by
  pointwise [val_main_v35, val_main_v34, val_main_v33, val_main_v17, val_main_v16, val_main_v15, val_main_v7, val_main_v5, val_main_v4, val_main_v2, val_main_v1, val_main_v0, val_main_cst]
  rw [bias_at]
  unfold scores score
  refine congrArg (fun u => u * Ideal.ofBits .f32 1040187392#32 + rel x3 h r j) (Finset.sum_congr rfl fun x _ => ?_)
  refine congrArg₂ _ (congrArg (fun u => x0 (ix3 b r u : S16x32x6912.Idx)) (Fin.ext (by show 3072 + (h.val * 64 + x.val) = 3072 + (64 * h.val + x.val); omega))) ?_
  unfold joined
  refine dite_congr rfl (fun _ => rfl) fun _ => ?_
  exact congrArg (fun u => x0 (ix3 b _ u : S16x32x6912.Idx)) (Fin.ext (by show 3072 + (256 + (h.val * 64 + x.val)) = 3328 + (64 * h.val + x.val); omega))

/-- The reference's result: the sum of the values, each times its normalized weight. -/
theorem ref_at (b : Fin 16) (h : Fin 4) (r : Fin 32) (x : Fin 64) :
    val_main_v49 (F := Ideal) x0 x1 x2 x3 (ix3 b r ⟨64 * h.val + x.val, by omega⟩)
      = ∑ j, joined x0 x2 3584 (by omega) b h j x
          * Ideal.div (weight (scores x0 x1 x3 b h r) j) (∑ j, weight (scores x0 x1 x3 b h r) j) := by
  have hy := fun j => scores_at x0 x1 x3 b h r j
  have hz := fun j => values_at x0 x2 b j h x
  unfold val_main_v49 val_main_v48 val_main_v47 val_main_v46 val_main_v45 val_main_v44 val_main_v43 val_main_v42 val_main_v41 val_main_v40 val_main_v39 val_main_v38 val_main_v37 val_main_v36
  generalize val_main_v35 (F := Ideal) x0 x1 x3 = y at hy ⊢
  generalize val_main_v8 (F := Ideal) x0 x2 = z at hz ⊢
  pointwise [val_main_cst_6, val_main_cst_7, val_main_cst_8]
  have ht : ∀ s : Fin 544 → EReal, max low (Finset.fold max low s Finset.univ) = top s := fun s => by
    rw [low_eq]; exact max_eq_right bot_le
  simp only [hy, hz]
  simp only [ht]
  rfl

end Cert.StepR
-- ==== Proof.StepEq.lean ====
/-
  The decoding step's kernel and its reference end with equal results.
-/
module
public import proofs.«01_k».proof.Defs
public import proofs.«01_k».proof.Proof.Finite
public import proofs.«01_k».proof.Proof.StepArray
public import proofs.«01_k».proof.Proof.StepRef
public import proofs.«01_k».proof.Proof.Gen.StepRefIdeal
public import Idealize.ShloMosaic.Lib.Claim
public import Idealize.ShloMosaic.Lib.Quiescent
@[expose] public section
set_option maxRecDepth 16384
noncomputable section
namespace Cert.StepE
open Idealize.ShloMosaic Idealize.ShloMosaic.TcCoe Cert.Rows Cert.StepV

/-- The test passed, every score is real. -/
theorem scores_fit (p : Vec Ideal Cert.StepIdeal.S16x32x6912 .f32) (ck cv : Vec Ideal Cert.StepIdeal.S16x512x4x64 .f32)
    (t : Vec Ideal Cert.StepIdeal.S4x257 .f32) (h : Cert.Pre_step_finite.fn (F := Ideal) p ck cv t = fun _ => 1#1)
    (b : Fin 16) (g : Fin 4) (r : Fin 32) : Fit (scores p ck t b g r) := by
  obtain ⟨h0, h1, h2⟩ := step_real p ck cv t h
  have hr : ∀ j, Real' (scores p ck t b g r j) := by
    intro j
    unfold scores
    refine score_real (fun x => h0 b r ⟨64 * g.val + x.val, by omega⟩) (fun x => ?_) (h2 _)
    unfold joined
    split
    · exact h1 _
    · rename_i hj
      refine cast (congrArg Real' (congrArg p ?_)) (h0 b ⟨j.val - 512, by omega⟩ ⟨256 + (64 * g.val + x.val), by omega⟩)
      exact congrArg (fun u => (ix3 b _ u : Cert.StepIdeal.S16x32x6912.Idx)) (Fin.ext (by show 3072 + (256 + (64 * g.val + x.val)) = 3328 + (64 * g.val + x.val); omega))
  exact ⟨fun j => (hr j).ne_top, ⟨0, by omega⟩, (hr _).ne_bot⟩

/-- The two result arrays agree when the arguments do. -/
theorem result_eq (m : (ℓ : Loc Cert.StepIdeal.nD Cert.StepIdeal.τ Cert.StepIdeal.sig) → Buf (Elt Ideal) ℓ)
    (hp : Cert.Pre_StepIdeal_step_finite m) (c : Dev Cert.StepIdeal.nD) :
    Cert.StepRefIdeal.Read.val_main_v49 (F := Ideal)
        (m ((c.tc : Thread Cert.StepIdeal.nD Cert.StepIdeal.τ).loc Cert.StepIdeal.main_arg0))
        (m ((c.tc : Thread Cert.StepIdeal.nD Cert.StepIdeal.τ).loc Cert.StepIdeal.main_arg1))
        (m ((c.tc : Thread Cert.StepIdeal.nD Cert.StepIdeal.τ).loc Cert.StepIdeal.main_arg2))
        (m ((c.tc : Thread Cert.StepIdeal.nD Cert.StepIdeal.τ).loc Cert.StepIdeal.main_arg3))
      = (Cert.StepIdeal.Gen.dats m 0 c).arrAt 4 Cert.StepIdeal.cfg0.N := by
  funext i
  obtain ⟨b, r, k, rfl⟩ : ∃ (b : Fin 16) (r : Fin 32) (k : Fin 256), i = ix3 b r k := ⟨i 0, i 1, i 2, ValueIdx.eq_ix3 i⟩
  have hk : k = ⟨64 * (⟨k.val / 64, by omega⟩ : Fin 4).val + (⟨k.val % 64, by omega⟩ : Fin 64).val, by show 64 * (k.val / 64) + k.val % 64 < 256; omega⟩ :=
    Fin.ext (by show k.val = 64 * (k.val / 64) + k.val % 64; omega)
  rw [hk]
  refine (Cert.StepR.ref_at _ _ _ _ b ⟨k.val / 64, by omega⟩ r ⟨k.val % 64, by omega⟩).trans ?_
  refine Eq.trans ?_ (Cert.StepV.arr_at m c b r ⟨k.val / 64, by omega⟩ ⟨k.val % 64, by omega⟩).symm
  exact (attend_eq (scores_fit _ _ _ _ (hp c) b ⟨k.val / 64, by omega⟩ r) _).symm

/-- Kernel and reference, from equal arguments, end with equal results and the arguments unchanged. -/
theorem algebraic : Cert.algebraic_StepIdeal_StepRefIdeal_pre_step_finite := by
  intro m g m' g' hp hag
  refine ⟨fun c => (Cert.StepIdeal.Gen.dats m 0 c).arrAt 4 Cert.StepIdeal.cfg0.N, Cert.StepIdeal.Value.run_blocks m g, ?_⟩
  refine θ_run_mono (Cert.StepRefIdeal.Value.run m' g') fun r h c => ⟨?_, (h c).2⟩
  obtain ⟨h0, h1, h2, h3⟩ := hag c
  rw [(h c).1, Cert.StepRefIdeal.Read.val_main_v49_eq, h0, h1, h2, h3]
  exact result_eq m hp c

end Cert.StepE
-- ==== Proof.Norm.lean ====
/-
  The root-mean-square normalization of one row, and the sums of the feed-forward layer, as functions of rows.
-/
module
public import Idealize.ShloMosaic.PureOps.Ideal.Laws
public import Idealize.ShloMosaic.Lib.Pointwise
@[expose] public section
noncomputable section
namespace Cert.Rows
open Idealize.ShloMosaic

/-- The reciprocal root of a row's mean square plus the small constant. -/
def invRms (x : Fin 1024 → EReal) : EReal :=
  Ideal.rsqrt (Ideal.div (∑ k, x k * x k) (Ideal.ofBits FTy.f32 1149239296#32) + Ideal.ofBits FTy.f32 897988541#32)

/-- A row scaled by its reciprocal root mean square and, element by element, by a gain. -/
def rms (x g : Fin 1024 → EReal) (c : Fin 1024) : EReal := x c * invRms x * g c

/-- The square of the positive part of one element of a row times a matrix. -/
def act {N : ℕ} (h : Fin 1024 → EReal) (u : Fin 1024 → Fin N → EReal) (k : Fin N) : EReal :=
  max (∑ j, h j * u j k) 0 * max (∑ j, h j * u j k) 0

/-- One row of the feed-forward layer: its normalized row through the two matrices, normalized, added to the row. -/
def ffn (x gpre : Fin 1024 → EReal) (up : Fin 1024 → Fin 4096 → EReal) (down : Fin 4096 → Fin 1024 → EReal)
    (gpost : Fin 1024 → EReal) (c : Fin 1024) : EReal :=
  x c + rms (fun c => ∑ k, act (rms x gpre) up k * down k c) gpost c

/-- A sum over 4096 terms is the sum of its four runs of 1024, added from the left. -/
theorem sum_four {f : Fin 4096 → EReal} (f0 f1 f2 f3 : Fin 1024 → EReal)
    (h0 : ∀ k : Fin 1024, f ⟨k.val, by omega⟩ = f0 k) (h1 : ∀ k : Fin 1024, f ⟨1024 + k.val, by omega⟩ = f1 k)
    (h2 : ∀ k : Fin 1024, f ⟨2048 + k.val, by omega⟩ = f2 k) (h3 : ∀ k : Fin 1024, f ⟨3072 + k.val, by omega⟩ = f3 k) :
    ∑ k, f k = ∑ k, f0 k + ∑ k, f1 k + ∑ k, f2 k + ∑ k, f3 k := by
  rw [Fin.sum_univ_tiles 4 1024 (by decide) f, Fin.sum_univ_four]
  refine congrArg₂ _ (congrArg₂ _ (congrArg₂ _ ?_ ?_) ?_) ?_ <;> refine Finset.sum_congr rfl fun k _ => ?_
  · rw [← h0]; exact congrArg f (Fin.ext (by simp))
  · rw [← h1]; exact congrArg f (Fin.ext (by simp))
  · rw [← h2]; exact congrArg f (Fin.ext (by simp))
  · rw [← h3]; exact congrArg f (Fin.ext (by simp))

end Cert.Rows
-- ==== Proof.ProjBlock.lean ====
/-
  One grid point of the projection kernel, read at an element of its output block.
-/
module
public import proofs.«01_k».proof.Proof.Norm
public import proofs.«01_k».proof.Proof.Gen.ProjIdeal.Frame
public import Idealize.ShloMosaic.Lib.Pointwise
public import Idealize.ShloMosaic.Lib.Pipeline.ValueKit
@[expose] public section
set_option maxRecDepth 16384
noncomputable section
namespace Cert.ProjV
open Cert.ProjIdeal Cert.ProjIdeal.Gen Idealize.ShloMosaic Idealize.ShloMosaic.TcCoe Cert.Rows

/-- One element of a normalized row's product with a matrix. -/
def dotRow {N : ℕ} (x g : Fin 1024 → EReal) (w : Fin 1024 → Fin N → EReal) (c : Fin N) : EReal := ∑ k, rms x g k * w k c

/-- The normalized block of rows, read at an element. -/
theorem pay6_at (x : Vec Ideal S256x1024 .f32) (g : Vec Ideal S1x1024 .f32) (r : Fin 256) (c : Fin 1024) :
    k0_pay6 (F := Ideal) x g (ix2 r c) = rms (fun k => x (ix2 r k)) (fun k => g (ix2 0 k)) c := by
  pointwise [k0_pay6]
  rfl

/-- A later column tile of the product, read at an element. -/
theorem pay1_at (h : FVec Ideal S256x1024 .bf16) (w : Vec Ideal S1024x768 .bf16) (r : Fin 256) (c : Fin 768) :
    k0_pay1 (F := Ideal) h w (ix2 r c) = ∑ k, h (ix2 r k) * w (ix2 k c) := by
  pointwise [k0_pay1]

/-- A later column tile of the product, read at an element. -/
theorem pay2_at (h : FVec Ideal S256x1024 .bf16) (w : Vec Ideal S1024x768 .bf16) (r : Fin 256) (c : Fin 768) :
    k0_pay2 (F := Ideal) h w (ix2 r c) = ∑ k, h (ix2 r k) * w (ix2 k c) := by
  pointwise [k0_pay2]

/-- A later column tile of the product, read at an element. -/
theorem pay3_at (h : FVec Ideal S256x1024 .bf16) (w : Vec Ideal S1024x768 .bf16) (r : Fin 256) (c : Fin 768) :
    k0_pay3 (F := Ideal) h w (ix2 r c) = ∑ k, h (ix2 r k) * w (ix2 k c) := by
  pointwise [k0_pay3]

/-- A later column tile of the product, read at an element. -/
theorem pay4_at (h : FVec Ideal S256x1024 .bf16) (w : Vec Ideal S1024x768 .bf16) (r : Fin 256) (c : Fin 768) :
    k0_pay4 (F := Ideal) h w (ix2 r c) = ∑ k, h (ix2 r k) * w (ix2 k c) := by
  pointwise [k0_pay4]

/-- A later column tile of the product, read at an element. -/
theorem pay5_at (h : FVec Ideal S256x1024 .bf16) (w : Vec Ideal S1024x768 .bf16) (r : Fin 256) (c : Fin 768) :
    k0_pay5 (F := Ideal) h w (ix2 r c) = ∑ k, h (ix2 r k) * w (ix2 k c) := by
  pointwise [k0_pay5]

/-- An early column tile of the product, read at an element. -/
theorem pay7_at (x : Vec Ideal S256x1024 .f32) (g : Vec Ideal S1x1024 .f32) (w : Vec Ideal S1024x768 .bf16) (r : Fin 256) (c : Fin 768) :
    k0_pay7 (F := Ideal) x g w (ix2 r c) = dotRow (fun k => x (ix2 r k)) (fun k => g (ix2 0 k)) (fun j k => w (ix2 j k)) c := by
  pointwise [k0_pay7]
  simp only [pay6_at]
  rfl

/-- An early column tile of the product, read at an element. -/
theorem pay8_at (x : Vec Ideal S256x1024 .f32) (g : Vec Ideal S1x1024 .f32) (w : Vec Ideal S1024x768 .bf16) (r : Fin 256) (c : Fin 768) :
    k0_pay8 (F := Ideal) x g w (ix2 r c) = dotRow (fun k => x (ix2 r k)) (fun k => g (ix2 0 k)) (fun j k => w (ix2 j k)) c := by
  pointwise [k0_pay8]
  simp only [pay6_at]
  rfl

/-- An early column tile of the product, read at an element. -/
theorem pay9_at (x : Vec Ideal S256x1024 .f32) (g : Vec Ideal S1x1024 .f32) (w : Vec Ideal S1024x768 .bf16) (r : Fin 256) (c : Fin 768) :
    k0_pay9 (F := Ideal) x g w (ix2 r c) = dotRow (fun k => x (ix2 r k)) (fun k => g (ix2 0 k)) (fun j k => w (ix2 j k)) c := by
  pointwise [k0_pay9]
  simp only [pay6_at]
  rfl

/-- An early column tile of the product, read at an element. -/
theorem pay10_at (x : Vec Ideal S256x1024 .f32) (g : Vec Ideal S1x1024 .f32) (w : Vec Ideal S1024x768 .bf16) (r : Fin 256) (c : Fin 768) :
    k0_pay10 (F := Ideal) x g w (ix2 r c) = dotRow (fun k => x (ix2 r k)) (fun k => g (ix2 0 k)) (fun j k => w (ix2 j k)) c := by
  pointwise [k0_pay10]
  simp only [pay6_at]
  rfl

/-- What one grid point computes: each row of its block is the normalized row times the matrix. -/
theorem out_at (x : Vec Ideal S256x1024 .f32) (g : Vec Ideal S1x1024 .f32) (w : Vec Ideal S1024x6912 .bf16) (r : Fin 256) (c : Fin 6912) :
    out0_3 (F := Ideal) x g w (ix2 r c) = dotRow (fun k => x (ix2 r k)) (fun k => g (ix2 0 k)) (fun j k => w (ix2 j k)) c := by
  unfold out0_3 k0_pay11
  rw [View.ld_unit_zero (by decide), View.ld_unit_zero (by decide)]
  canon_tiles y h
  all_goals
    obtain ⟨a, b, rfl⟩ : ∃ (a : Fin 256) (b : Fin 768), y = ix2 a b := ⟨y 0, y 1, ValueIdx.eq_ix2 y⟩
    simp only [pay1_at, pay2_at, pay3_at, pay4_at, pay5_at, pay6_at, pay7_at, pay8_at, pay9_at, pay10_at]
    obtain rfl : a = r := Fin.ext h0.symm
    refine Finset.sum_congr rfl fun k _ => congrArg₂ (· * ·) rfl ?_
    refine View.ld_unit_apply_of _ _ _ _ _ _ fun i => ?_
    match i with
    | ⟨0, _⟩ => exact (Nat.zero_add k.val).symm
    | ⟨1, _⟩ => first | exact h1 | exact h1.trans (Nat.zero_add b.val).symm
end Cert.ProjV
-- ==== Proof.Columns.lean ====
/-
  The column order in which the projection kernel lays out its result.
-/
module
public import Idealize.ShloMosaic.PureOps.Ideal.Laws
@[expose] public section
set_option maxRecDepth 16384
noncomputable section
namespace Cert.Rows
open Idealize.ShloMosaic

/-- The kernel's column order: of the 6912 columns, 6796 are the matrix's own, taken in another order, and 116 are zero. -/
def pick (f : Fin 6796 → EReal) (c : Fin 6912) : EReal :=
  if _ : c.val < 3072 then f ⟨3724 + c.val, by omega⟩
  else if _ : c.val - 3072 < 768 then f ⟨2956 + (c.val - 3072), by omega⟩
  else if _ : c.val - 3072 - 768 < 384 then f ⟨2572 + (c.val - 3072 - 768), by omega⟩
  else if _ : c.val - 3072 - 768 - 384 < 1408 then f ⟨c.val - 3072 - 768 - 384, by omega⟩
  else if _ : c.val - 3072 - 768 - 384 - 1408 < 128 then
    if _ : c.val - 3072 - 768 - 384 - 1408 < 12 then f ⟨2560 + (c.val - 3072 - 768 - 384 - 1408), by omega⟩ else 0
  else f ⟨1408 + (c.val - 3072 - 768 - 384 - 1408 - 128), by omega⟩

/-- The same order, the zero columns counted as a piece of their own. -/
theorem pick_flat (f : Fin 6796 → EReal) (c : Fin 6912) : pick f c =
    if _ : c.val < 3072 then f ⟨3724 + c.val, by omega⟩
    else if _ : c.val - 3072 < 768 then f ⟨2956 + (c.val - 3072), by omega⟩
    else if _ : c.val - 3072 - 768 < 384 then f ⟨2572 + (c.val - 3072 - 768), by omega⟩
    else if _ : c.val - 3072 - 768 - 384 < 1408 then f ⟨c.val - 3072 - 768 - 384, by omega⟩
    else if _ : c.val - 3072 - 768 - 384 - 1408 < 12 then f ⟨2560 + (c.val - 3072 - 768 - 384 - 1408), by omega⟩
    else if _ : c.val - 3072 - 768 - 384 - 1408 - 12 < 116 then 0
    else f ⟨1408 + (c.val - 3072 - 768 - 384 - 1408 - 12 - 116), by omega⟩ := by
  unfold pick
  iterate 4 refine dite_congr rfl (fun _ => rfl) fun _ => ?_
  split_ifs <;> first | (exfalso; omega) | exact congrArg f (Fin.ext (by dsimp only; omega)) | exact congrArg f (Fin.ext rfl) | exact Eq.refl (0 : EReal)

/-- A row times a matrix whose columns are so ordered is the row times the matrix, so ordered. -/
theorem sum_pick {n : ℕ} (h : Fin n → EReal) (w : Fin n → Fin 6796 → EReal) (c : Fin 6912) :
    ∑ k, h k * pick (w k) c = pick (fun j => ∑ k, h k * w k j) c := by
  unfold pick
  split_ifs <;> simp

/-- The kernel's columns from 4224 on are the token-shift columns. -/
theorem pick_shift (f : Fin 6796 → EReal) (k : Fin 1408) : pick f ⟨4224 + k.val, by omega⟩ = f ⟨k.val, by omega⟩ := by
  unfold pick
  dsimp only
  split_ifs <;> first | (exfalso; omega) | exact congrArg f (Fin.ext (by dsimp only; omega))

/-- The kernel's columns from 5760 on are those of the short convolution. -/
theorem pick_conv (f : Fin 6796 → EReal) (k : Fin 1152) : pick f ⟨5760 + k.val, by omega⟩ = f ⟨1408 + k.val, by omega⟩ := by
  unfold pick
  dsimp only
  split_ifs <;> first | (exfalso; omega) | exact congrArg f (Fin.ext (by dsimp only; omega))

/-- The kernel's columns from 3328 on are the keys. -/
theorem pick_keys (f : Fin 6796 → EReal) (h : Fin 4) (d : Fin 64) :
    pick f ⟨3328 + (h.val * 64 + d.val), by omega⟩ = f ⟨2956 + (256 + (h.val * 64 + d.val)), by omega⟩ := by
  unfold pick
  dsimp only
  split_ifs <;> first | (exfalso; omega) | exact congrArg f (Fin.ext (by dsimp only; omega))

/-- The kernel's columns from 3584 on are the values. -/
theorem pick_vals (f : Fin 6796 → EReal) (h : Fin 4) (d : Fin 64) :
    pick f ⟨3584 + (h.val * 64 + d.val), by omega⟩ = f ⟨2956 + (512 + (h.val * 64 + d.val)), by omega⟩ := by
  unfold pick
  dsimp only
  split_ifs <;> first | (exfalso; omega) | exact congrArg f (Fin.ext (by dsimp only; omega))

end Cert.Rows
-- ==== Proof.ProjArray.lean ====
/-
  What the projection kernel's output array holds after the run.
-/
module
public import proofs.«01_k».proof.Proof.ProjBlock
public import proofs.«01_k».proof.Proof.Columns
public import Idealize.ShloMosaic.Lib.Claim
@[expose] public section
set_option maxRecDepth 16384
noncomputable section
namespace Cert.ProjV
open Cert.ProjIdeal Cert.ProjIdeal.Gen Idealize.ShloMosaic Idealize.ShloMosaic.TcCoe Cert.Rows

variable (m : (ℓ : Loc nD τ sig) → Buf (Elt Ideal) ℓ)

/-- Grid point `t` reads block `t` of rows of window 0. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Row `r` of window 0's block at point `t` is row `256 t + r` of the array. -/
theorem emb0 (t : Fin cfg0.N) (r : Fin 256) (k : Fin 1024) :
    ((cfg0.win 0).blk t).view.emb (ix2 r k : S256x1024.Idx)
      = (ix2 ⟨256 * t.val + r.val, by have : t.val < 256 := t.isLt; omega⟩ k : S65536x1024.Idx) := by
  funext a
  refine Fin.ext ?_
  match a with
  | ⟨0, _⟩ =>
    refine (win0_0.rect_emb_val t (ix2 r k : S256x1024.Idx) 0).trans ?_
    rw [(idx0 t).1]
    show t.val * 256 + r.val = 256 * t.val + r.val
    omega
  | ⟨1, _⟩ => exact win0_0.rect_emb_val_of_index_zero t 1 (idx0 t).2 (ix2 r k : S256x1024.Idx)

/-- Window 0's block at point `t`, read from its argument. -/
theorem blk0_at (c : Dev nD) (t : Fin cfg0.N) (r : Fin 256) (k : Fin 1024) :
    iblk m c 0 t (ix2 r k) = m ((c : Thread nD τ).loc main_arg0) (ix2 ⟨256 * t.val + r.val, by have : t.val < 256 := t.isLt; omega⟩ k) := by
  unfold iblk
  rw [View.read_apply]
  entry_read
  rw [emb0]
  rfl

/-- The gain of window 1, staged as one row, read from its argument. -/
theorem blk1_at (c : Dev nD) (t : Fin cfg0.N) (k : Fin 1024) :
    iblk m c 1 t (ix2 0 k) = m ((c : Thread nD τ).loc main_arg1) (ix1 k) := by
  unfold iblk
  rw [View.read_apply]
  entry_read
  have e : ((cfg0.win 1).blk t).view.emb (ix2 0 k : S1x1024.Idx) = (ix2 0 k : S1x1024.Idx) := by
    funext a
    exact Fin.ext (win0_1.rect_emb_val_of_index_zero t a (by match a with | ⟨0, _⟩ => rfl | ⟨1, _⟩ => rfl) (ix2 0 k : S1x1024.Idx))
  rw [e]
  show shapeCast S1x1024 _ _ (ix2 0 k) = _
  pointwise

/-- The matrix as the host leaves it: its columns reordered, with 116 columns of zeros. -/
theorem entry_w (c : Dev nD) (j : Fin 1024) (k : Fin 6912) :
    V m c main_v8 (ix2 j k) = pick (fun k => m ((c : Thread nD τ).loc main_arg2) (ix2 j k)) k := by
  show StableHlo.after (List.flatten [hostOps0, hostOps0_1, hostOps0_2]) (fun b => m (c, b)) (Proc.devRef .tc main_v8) (ix2 j k) = _
  simp only [hostOps0, hostOps0_1, hostOps0_2, List.flatten_cons, List.flatten_nil, List.append_nil, List.cons_append, List.nil_append]
  after_results
  pointwise
  after_results_simp
  simp -implicitDefEqProofs only [StableHlo.TRef.toBuf, StableHlo.TRef.ofBuf, cast_eq]
  pointwise
  unfold pick
  iterate 4 refine dite_congr rfl (fun _ => rfl) fun _ => ?_
  refine dite_congr rfl (fun _ => dite_congr rfl (fun _ => rfl) fun _ => ?_) fun _ => rfl
  show ((BitVec.toInt 0#32 : ℝ) : EReal) = 0
  simp

/-- The matrix of window 2, its columns reordered and padded, read from its argument. -/
theorem blk2_at (c : Dev nD) (t : Fin cfg0.N) (j : Fin 1024) (k : Fin 6912) :
    iblk m c 2 t (ix2 j k) = pick (fun k => m ((c : Thread nD τ).loc main_arg2) (ix2 j k)) k := by
  unfold iblk
  rw [View.read_apply]
  have e : ((cfg0.win 2).blk t).view.emb (ix2 j k : S1024x6912.Idx) = (ix2 j k : S1024x6912.Idx) := by
    funext a
    exact Fin.ext (win0_2.rect_emb_val_of_index_zero t a (by match a with | ⟨0, _⟩ => rfl | ⟨1, _⟩ => rfl) (ix2 j k : S1024x6912.Idx))
  rw [e]
  exact entry_w m c j k

/-- Grid point `t` writes block `t` of rows of window 3. -/
theorem idx3 : ∀ t : Fin cfg0.N, win0_3.index t 0 = t.val ∧ win0_3.index t 1 = 0 :=
  (by decide +kernel : ∀ t : Fin grid0.N, win0_3.index t 0 = t.val ∧ win0_3.index t 1 = 0)

/-- Row `r` of window 3's block at point `t` is row `256 t + r` of the array. -/
theorem emb3 (t : Fin cfg0.N) (r : Fin 256) (k : Fin 6912) :
    ((cfg0.win 3).blk t).view.emb (ix2 r k : S256x6912.Idx)
      = (ix2 ⟨256 * t.val + r.val, by have : t.val < 256 := t.isLt; omega⟩ k : S65536x6912.Idx) := by
  funext a
  refine Fin.ext ?_
  match a with
  | ⟨0, _⟩ =>
    refine (win0_3.rect_emb_val t (ix2 r k : S256x6912.Idx) 0).trans ?_
    rw [(idx3 t).1]
    show t.val * 256 + r.val = 256 * t.val + r.val
    omega
  | ⟨1, _⟩ => exact win0_3.rect_emb_val_of_index_zero t 1 (idx3 t).2 (ix2 r k : S256x6912.Idx)

/-- Different grid points write different blocks. -/
theorem apart (t t' : Fin cfg0.N) (hne : t ≠ t') :
    Disjoint ((cfg0.win 3).blk t).view.set ((cfg0.win 3).blk t').view.set :=
  (cfg0.win 3).disjoint_blk fun h => hne (Fin.ext (by rw [← (idx3 t).1, ← (idx3 t').1]; exact congrFun h 0))

/-- An element of the final array under block `t` is what point `t` computed there. -/
theorem arr_blk (c : Dev nD) (t : Fin cfg0.N) (y : S256x6912.Idx) :
    (dats m 0 c).arrAt 3 cfg0.N (((cfg0.win 3).blk t).view.emb y)
      = out0_3 (F := Ideal) (iblk m c 0 t) (iblk m c 1 t) (iblk m c 2 t) y := by
  have h := congrFun ((dats m 0 c).read_blk_arrAt_eq_flushed 3 (fun t t' _ _ => apart t t') cfg0.N t t.isLt (flush0_3 t)) y
  rw [View.read_apply] at h
  refine h.trans ?_
  show (cfg0.win 3).cut (grid0.coords t) ((dats m 0 c).after 3 t) y = _
  rw [after0_3]
  rfl

/-- The final array: each row is the normalized row of the first argument times the reordered matrix. -/
theorem arr_at (c : Dev nD) (r : Fin 65536) (k : Fin 6912) :
    (dats m 0 c).arrAt 3 cfg0.N (ix2 r k : S65536x6912.Idx)
      = pick (fun k => ∑ j, rms (fun k => m ((c : Thread nD τ).loc main_arg0) (ix2 r k)) (fun k => m ((c : Thread nD τ).loc main_arg1) (ix1 k)) j
          * m ((c : Thread nD τ).loc main_arg2) (ix2 j k)) k := by
  have hlt : r.val / 256 < 256 := by omega
  obtain ⟨t, ht⟩ : ∃ t : Fin cfg0.N, t.val = r.val / 256 := ⟨⟨r.val / 256, hlt⟩, rfl⟩
  have hr : (⟨256 * t.val + r.val % 256, by rw [ht]; omega⟩ : Fin 65536) = r := Fin.ext (by simp only [ht]; omega)
  have e : ((cfg0.win 3).blk t).view.emb (ix2 ⟨r.val % 256, by omega⟩ k : S256x6912.Idx) = (ix2 r k : S65536x6912.Idx) := by
    rw [emb3]; exact congrArg (fun r => (ix2 r k : S65536x6912.Idx)) hr
  have b0 : ∀ k, iblk m c 0 t (ix2 ⟨r.val % 256, by omega⟩ k : S256x1024.Idx) = m ((c : Thread nD τ).loc main_arg0) (ix2 r k : S65536x1024.Idx) :=
    fun k => (blk0_at m c t _ k).trans (congrArg (fun r => m ((c : Thread nD τ).loc main_arg0) (ix2 r k : S65536x1024.Idx)) hr)
  rw [← e, arr_blk, out_at]
  simp only [b0, blk1_at, blk2_at, dotRow]
  exact sum_pick _ (fun j k => m ((c : Thread nD τ).loc main_arg2) (ix2 j k)) k
end Cert.ProjV
-- ==== Proof.ProjTail.lean ====
/-
  What the host cuts out of the projection: the state that a layer hands on.
-/
module
public import proofs.«01_k».proof.Proof.ProjArray
public import Idealize.ShloMosaic.Lib.Pointwise
@[expose] public section
set_option maxRecDepth 16384
noncomputable section
namespace Cert.ProjT
open Cert.ProjIdeal Cert.ProjIdeal.Gen Idealize.ShloMosaic Idealize.ShloMosaic.TcCoe

/-- The projection by streams and frames. -/
def frames (y : Vec Ideal S65536x6912 .f32) : Vec Ideal S32x2048x6912 .f32 :=
  shapeCast _ y shapeCasts_S65536x6912_S32x2048x6912

/-- The last row of the token-shift columns. -/
def shift (y : Vec Ideal S65536x6912 .f32) : Vec Ideal S32x1408 .f32 :=
  shapeCast _ (extractStridedSlice S32x1x1408 ![0, 2047, 4224] (frames y) slices_S32x2048x6912_S32x1x1408_0_2047_4224)
    shapeCasts_S32x1x1408_S32x1408

/-- The last three rows of the columns of the short convolution. -/
def conv (y : Vec Ideal S65536x6912 .f32) : Vec Ideal S32x3x1152 .f32 :=
  extractStridedSlice S32x3x1152 ![0, 2045, 5760] (frames y) slices_S32x2048x6912_S32x3x1152_0_2045_5760

/-- The last 512 rows of the keys, by heads. -/
def keys (y : Vec Ideal S65536x6912 .f32) : Vec Ideal S32x512x4x64 .f32 :=
  shapeCast _ (extractStridedSlice S32x512x256 ![0, 1536, 0]
      (extractStridedSlice S32x2048x256 ![0, 0, 3328] (frames y) slices_S32x2048x6912_S32x2048x256_0_0_3328)
      slices_S32x2048x256_S32x512x256_0_1536_0) shapeCasts_S32x512x256_S32x512x4x64

/-- The last 512 rows of the values, by heads. -/
def vals (y : Vec Ideal S65536x6912 .f32) : Vec Ideal S32x512x4x64 .f32 :=
  shapeCast _ (extractStridedSlice S32x512x256 ![0, 1536, 0]
      (extractStridedSlice S32x2048x256 ![0, 0, 3584] (frames y) slices_S32x2048x6912_S32x2048x256_0_0_3584)
      slices_S32x2048x256_S32x512x256_0_1536_0) shapeCasts_S32x512x256_S32x512x4x64

variable (y : Vec Ideal S65536x6912 .f32)

/-- A row of a stream is a row of the projection. -/
theorem frames_at (b : Fin 32) (t : Fin 2048) (k : Fin 6912) :
    frames y (ix3 b t k) = y (ix2 ⟨b.val * 2048 + t.val, by omega⟩ k) := by
  pointwise [frames]

/-- A row of the token-shift columns is the last row of its stream. -/
theorem shift_at (b : Fin 32) (k : Fin 1408) :
    shift y (ix2 b k) = y (ix2 ⟨b.val * 2048 + 2047, by omega⟩ ⟨4224 + k.val, by omega⟩) := by
  pointwise [shift]
  exact frames_at y b 2047 _

/-- A row of the convolution's state is one of the last three rows of its stream. -/
theorem conv_at (b : Fin 32) (t : Fin 3) (k : Fin 1152) :
    conv y (ix3 b t k) = y (ix2 ⟨b.val * 2048 + (2045 + t.val), by omega⟩ ⟨5760 + k.val, by omega⟩) := by
  pointwise [conv]
  exact frames_at y b _ _

/-- A kept key is a key of one of the last 512 rows of its stream. -/
theorem keys_at (b : Fin 32) (t : Fin 512) (h : Fin 4) (d : Fin 64) :
    keys y (ix4 b t h d) = y (ix2 ⟨b.val * 2048 + (1536 + t.val), by omega⟩ ⟨3328 + (h.val * 64 + d.val), by omega⟩) := by
  pointwise [keys]
  exact frames_at y b _ _

/-- A kept value is a value of one of the last 512 rows of its stream. -/
theorem vals_at (b : Fin 32) (t : Fin 512) (h : Fin 4) (d : Fin 64) :
    vals y (ix4 b t h d) = y (ix2 ⟨b.val * 2048 + (1536 + t.val), by omega⟩ ⟨3584 + (h.val * 64 + d.val), by omega⟩) := by
  pointwise [vals]
  exact frames_at y b _ _

variable (m : (ℓ : Loc nD τ sig) → Buf (Elt Ideal) ℓ) (g : Dev nD → PrngReg)

/-- The host's operations after the call leave these four results, cut out of the call's array. -/
theorem tail (c : Dev nD) :
    Pipeline.afterTail₀ cfgs (dats m) 0 (V0 m) [hostOps1] c main_v17 = shift ((dats m 0 c).arrAt 3 cfg0.N)
    ∧ Pipeline.afterTail₀ cfgs (dats m) 0 (V0 m) [hostOps1] c main_v18 = conv ((dats m 0 c).arrAt 3 cfg0.N)
    ∧ Pipeline.afterTail₀ cfgs (dats m) 0 (V0 m) [hostOps1] c main_v19 = keys ((dats m 0 c).arrAt 3 cfg0.N)
    ∧ Pipeline.afterTail₀ cfgs (dats m) 0 (V0 m) [hostOps1] c main_v20 = vals ((dats m 0 c).arrAt 3 cfg0.N) := by
  have e : Pipeline.withArrays cfg0.spec c (V0 m c) (fun w => (dats m 0 c).arrAt w cfg0.N) (Proc.devRef .tc main_v10)
      = (dats m 0 c).arrAt 3 cfg0.N :=
    Pipeline.withArrays_arr cfg0.spec launch0.win.arr_inj c (V0 m c) (fun w => (dats m 0 c).arrAt w cfg0.N) 3
  have all : ∀ b, Pipeline.afterTail₀ cfgs (dats m) 0 (V0 m) [hostOps1] c b
      = StableHlo.after (List.flatten [hostOps1]) (Pipeline.withArrays cfg0.spec c (V0 m c) (fun w => (dats m 0 c).arrAt w cfg0.N)) (Proc.devRef .tc b) :=
    fun _ => rfl
  simp only [all]
  generalize Pipeline.withArrays cfg0.spec c (V0 m c) (fun w => (dats m 0 c).arrAt w cfg0.N) = W at e ⊢
  simp only [hostOps1, List.flatten_cons, List.flatten_nil, List.append_nil, List.cons_append, List.nil_append]
  rw [← e]
  refine ⟨?_, ?_, ?_, ?_⟩ <;> after_results <;> rfl

/-- The kernel ends with its array, the four results cut out of it, and the arguments unchanged. -/
theorem run : θ_run defs (onTc (τ := τ) (main (F := Ideal))) ⟨m, fun _ => 0, g⟩ fun r => ∀ c : Dev nD,
    r.2.mem ((c.tc : Thread nD τ).loc main_v10) = (dats m 0 c).arrAt 3 cfg0.N
    ∧ r.2.mem ((c.tc : Thread nD τ).loc main_v17) = shift ((dats m 0 c).arrAt 3 cfg0.N)
    ∧ r.2.mem ((c.tc : Thread nD τ).loc main_v18) = conv ((dats m 0 c).arrAt 3 cfg0.N)
    ∧ r.2.mem ((c.tc : Thread nD τ).loc main_v19) = keys ((dats m 0 c).arrAt 3 cfg0.N)
    ∧ r.2.mem ((c.tc : Thread nD τ).loc main_v20) = vals ((dats m 0 c).arrAt 3 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine θ_run_mono (θ_run_and (run_main m g) (unchanged m g)) fun r h c => ?_
  obtain ⟨t1, t2, t3, t4⟩ := tail m c
  refine ⟨(h.1 c).1 3, ?_, ?_, ?_, ?_, h.2 c⟩
  · exact ((h.1 c).2 main_v17 (Pipeline.mem_restRefs_of main_v17 (by decide) (by decide))).trans t1
  · exact ((h.1 c).2 main_v18 (Pipeline.mem_restRefs_of main_v18 (by decide) (by decide))).trans t2
  · exact ((h.1 c).2 main_v19 (Pipeline.mem_restRefs_of main_v19 (by decide) (by decide))).trans t3
  · exact ((h.1 c).2 main_v20 (Pipeline.mem_restRefs_of main_v20 (by decide) (by decide))).trans t4
end Cert.ProjT
-- ==== Proof.ProjRef.lean ====
/-
  What the projection reference computes, row by row.
-/
module
public import proofs.«01_k».proof.Proof.Norm
public import proofs.«01_k».proof.Proof.Columns
public import proofs.«01_k».proof.Proof.Gen.ProjRefIdeal.Read
public import Idealize.ShloMosaic.Lib.Pointwise
@[expose] public section
set_option maxRecDepth 16384
noncomputable section
namespace Cert.ProjR
open Cert.ProjRefIdeal Cert.ProjRefIdeal.Gen Cert.ProjRefIdeal.Read Idealize.ShloMosaic Idealize.ShloMosaic.TcCoe Cert.Rows

variable (x0 : Vec Ideal S65536x1024 .f32) (x1 : Vec Ideal S1024 .f32) (x2 : Vec Ideal S1024x6796 .f32)

/-- The reference's normalized rows, read at an element. -/
theorem norm_at (r : Fin 65536) (c : Fin 1024) :
    val_main_v12 (F := Ideal) x0 x1 (ix2 r c) = rms (fun k => x0 (ix2 r k)) (fun k => x1 (ix1 k)) c := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's product, read at an element. -/
theorem dot_at (r : Fin 65536) (c : Fin 6796) :
    val_main_v13 (F := Ideal) x0 x1 x2 (ix2 r c)
      = ∑ k, rms (fun k => x0 (ix2 r k)) (fun k => x1 (ix1 k)) k * x2 (ix2 k c) := by
  pointwise [val_main_v13]
  simp only [norm_at]

/-- The reference's result: each row is the normalized row of the first argument times the matrix, reordered. -/
theorem ref_at (r : Fin 65536) (k : Fin 6912) :
    val_main_v21 (F := Ideal) x0 x1 x2 (ix2 r k)
      = pick (fun k => ∑ j, rms (fun k => x0 (ix2 r k)) (fun k => x1 (ix1 k)) j * x2 (ix2 j k)) k := by
  have h := dot_at x0 x1 x2 r
  unfold val_main_v21 val_main_v20 val_main_v19 val_main_v18 val_main_v17 val_main_v16 val_main_v15 val_main_v14
  generalize val_main_v13 (F := Ideal) x0 x1 x2 = y at h ⊢
  pointwise [val_main_cst_2]
  simp only [h]
  rw [pick_flat]

/-- One column of the product's row `r`. -/
def col (r : Fin 65536) (k : Fin 6796) : EReal := ∑ j, rms (fun k => x0 (ix2 r k)) (fun k => x1 (ix1 k)) j * x2 (ix2 j k)

/-- The reference's last row of the token-shift columns. -/
theorem shift_at (b : Fin 32) (k : Fin 1408) :
    val_main_v33 (F := Ideal) x0 x1 x2 (ix2 b k) = col x0 x1 x2 ⟨b.val * 2048 + 2047, by omega⟩ ⟨k.val, by omega⟩ := by
  have h := dot_at x0 x1 x2
  unfold col val_main_v33 val_main_v32 val_main_v31 val_main_v14
  generalize val_main_v13 (F := Ideal) x0 x1 x2 = y at h ⊢
  pointwise
  exact h _ _

/-- The reference's last rows of the columns of the short convolution. -/
theorem conv_at (b : Fin 32) (t : Fin 3) (k : Fin 1152) :
    val_main_v34 (F := Ideal) x0 x1 x2 (ix3 b t k)
      = col x0 x1 x2 ⟨b.val * 2048 + (2045 + t.val), by omega⟩ ⟨1408 + k.val, by omega⟩ := by
  have h := dot_at x0 x1 x2
  unfold col val_main_v34 val_main_v30 val_main_v29 val_main_v15
  generalize val_main_v13 (F := Ideal) x0 x1 x2 = y at h ⊢
  pointwise
  rw [dif_neg (by omega)]
  refine Eq.trans (congrArg (fun r => y (ix2 r _)) (Fin.ext ?_)) (h _ _)
  dsimp only
  omega

/-- The reference's kept keys. -/
theorem keys_at (b : Fin 32) (t : Fin 512) (e : Fin 4) (d : Fin 64) :
    val_main_v35 (F := Ideal) x0 x1 x2 (ix4 b t e d)
      = col x0 x1 x2 ⟨b.val * 2048 + (1536 + t.val), by omega⟩ ⟨2956 + (256 + (e.val * 64 + d.val)), by omega⟩ := by
  have h := dot_at x0 x1 x2
  unfold col val_main_v35 val_main_v26 val_main_v23 val_main_v18
  generalize val_main_v13 (F := Ideal) x0 x1 x2 = y at h ⊢
  pointwise
  exact h _ _

/-- The reference's kept values. -/
theorem vals_at (b : Fin 32) (t : Fin 512) (e : Fin 4) (d : Fin 64) :
    val_main_v36 (F := Ideal) x0 x1 x2 (ix4 b t e d)
      = col x0 x1 x2 ⟨b.val * 2048 + (1536 + t.val), by omega⟩ ⟨2956 + (512 + (e.val * 64 + d.val)), by omega⟩ := by
  have h := dot_at x0 x1 x2
  unfold col val_main_v36 val_main_v27 val_main_v24 val_main_v18
  generalize val_main_v13 (F := Ideal) x0 x1 x2 = y at h ⊢
  pointwise
  exact h _ _
end Cert.ProjR
-- ==== Proof.ProjEq.lean ====
/-
  The projection kernel and its reference end with equal results.
-/
module
public import proofs.«01_k».proof.Defs
public import proofs.«01_k».proof.Proof.ProjArray
public import proofs.«01_k».proof.Proof.ProjTail
public import proofs.«01_k».proof.Proof.ProjRef
public import proofs.«01_k».proof.Proof.Gen.ProjRefIdeal
public import Idealize.ShloMosaic.Lib.Claim
public import Idealize.ShloMosaic.Lib.Quiescent
@[expose] public section
set_option maxRecDepth 16384
noncomputable section
namespace Cert.ProjE
open Idealize.ShloMosaic Idealize.ShloMosaic.TcCoe

/-- The reference ends with its arguments unchanged and every counter at zero. -/
theorem quiescent_ref : Cert.quiescent_ProjRefIdeal := by
  intro m g _
  refine θ_run_mono (Cert.ProjRefIdeal.Value.run m g) fun r h => ⟨fun c => (h c).2.2.2.2.2, ?_⟩
  exact sem_eq_zero_of_no_sems (by decide) r.2

variable (m : (ℓ : Loc Cert.ProjIdeal.nD Cert.ProjIdeal.τ Cert.ProjIdeal.sig) → Buf (Elt Ideal) ℓ)
  (c : Dev Cert.ProjIdeal.nD)

/-- The kernel's array after the run. -/
abbrev arr : Vec Ideal Cert.ProjIdeal.S65536x6912 .f32 := (Cert.ProjIdeal.Gen.dats m 0 c).arrAt 3 Cert.ProjIdeal.cfg0.N

/-- The first argument: the rows. -/
abbrev a0 : Vec Ideal Cert.ProjIdeal.S65536x1024 .f32 := m ((c.tc : Thread Cert.ProjIdeal.nD Cert.ProjIdeal.τ).loc Cert.ProjIdeal.main_arg0)
/-- The second argument: the gain. -/
abbrev a1 : Vec Ideal Cert.ProjIdeal.S1024 .f32 := m ((c.tc : Thread Cert.ProjIdeal.nD Cert.ProjIdeal.τ).loc Cert.ProjIdeal.main_arg1)
/-- The third argument: the matrix. -/
abbrev a2 : Vec Ideal Cert.ProjIdeal.S1024x6796 .f32 := m ((c.tc : Thread Cert.ProjIdeal.nD Cert.ProjIdeal.τ).loc Cert.ProjIdeal.main_arg2)

/-- The two projections agree when the arguments do. -/
theorem result_eq : Cert.ProjRefIdeal.Read.val_main_v21 (F := Ideal) (a0 m c) (a1 m c) (a2 m c) = arr m c := by
  funext i
  obtain ⟨r, k, rfl⟩ : ∃ (r : Fin 65536) (k : Fin 6912), i = ix2 r k := ⟨i 0, i 1, ValueIdx.eq_ix2 i⟩
  exact (Cert.ProjR.ref_at _ _ _ r k).trans (Cert.ProjV.arr_at m c r k).symm

/-- The last rows of the token-shift columns agree. -/
theorem shift_eq : Cert.ProjRefIdeal.Read.val_main_v33 (F := Ideal) (a0 m c) (a1 m c) (a2 m c) = Cert.ProjT.shift (arr m c) := by
  funext i
  obtain ⟨b, k, rfl⟩ : ∃ (b : Fin 32) (k : Fin 1408), i = ix2 b k := ⟨i 0, i 1, ValueIdx.eq_ix2 i⟩
  refine (Cert.ProjR.shift_at _ _ _ b k).trans (Eq.symm ?_)
  exact (Cert.ProjT.shift_at _ b k).trans ((Cert.ProjV.arr_at m c _ _).trans (Cert.Rows.pick_shift _ k))

/-- The last rows of the convolution's columns agree. -/
theorem conv_eq : Cert.ProjRefIdeal.Read.val_main_v34 (F := Ideal) (a0 m c) (a1 m c) (a2 m c) = Cert.ProjT.conv (arr m c) := by
  funext i
  obtain ⟨b, t, k, rfl⟩ : ∃ (b : Fin 32) (t : Fin 3) (k : Fin 1152), i = ix3 b t k := ⟨i 0, i 1, i 2, ValueIdx.eq_ix3 i⟩
  refine (Cert.ProjR.conv_at _ _ _ b t k).trans (Eq.symm ?_)
  exact (Cert.ProjT.conv_at _ b t k).trans ((Cert.ProjV.arr_at m c _ _).trans (Cert.Rows.pick_conv _ k))

/-- The kept keys agree. -/
theorem keys_eq : Cert.ProjRefIdeal.Read.val_main_v35 (F := Ideal) (a0 m c) (a1 m c) (a2 m c) = Cert.ProjT.keys (arr m c) := by
  funext i
  obtain ⟨b, t, h, d, rfl⟩ : ∃ (b : Fin 32) (t : Fin 512) (h : Fin 4) (d : Fin 64), i = ix4 b t h d := ⟨i 0, i 1, i 2, i 3, ValueIdx.eq_ix4 i⟩
  refine (Cert.ProjR.keys_at _ _ _ b t h d).trans (Eq.symm ?_)
  exact (Cert.ProjT.keys_at _ b t h d).trans ((Cert.ProjV.arr_at m c _ _).trans (Cert.Rows.pick_keys _ h d))

/-- The kept values agree. -/
theorem vals_eq : Cert.ProjRefIdeal.Read.val_main_v36 (F := Ideal) (a0 m c) (a1 m c) (a2 m c) = Cert.ProjT.vals (arr m c) := by
  funext i
  obtain ⟨b, t, h, d, rfl⟩ : ∃ (b : Fin 32) (t : Fin 512) (h : Fin 4) (d : Fin 64), i = ix4 b t h d := ⟨i 0, i 1, i 2, i 3, ValueIdx.eq_ix4 i⟩
  refine (Cert.ProjR.vals_at _ _ _ b t h d).trans (Eq.symm ?_)
  exact (Cert.ProjT.vals_at _ b t h d).trans ((Cert.ProjV.arr_at m c _ _).trans (Cert.Rows.pick_vals _ h d))

/-- Kernel and reference, from equal arguments, end with equal results and the arguments unchanged. -/
theorem algebraic : Cert.algebraic_ProjIdeal_ProjRefIdeal := by
  intro m g m' g' _ hag
  refine ⟨fun c => arr m c, fun c => Cert.ProjT.shift (arr m c), fun c => Cert.ProjT.conv (arr m c),
    fun c => Cert.ProjT.keys (arr m c), fun c => Cert.ProjT.vals (arr m c), Cert.ProjT.run m g, ?_⟩
  refine θ_run_mono (Cert.ProjRefIdeal.Value.run m' g') fun r h c => ?_
  obtain ⟨h0, h1, h2⟩ := hag c
  obtain ⟨e0, e1, e2, e3, e4, ha⟩ := h c
  refine ⟨?_, ?_, ?_, ?_, ?_, ha⟩
  · rw [e0, Cert.ProjRefIdeal.Read.val_main_v21_eq, h0, h1, h2]
    exact result_eq m c
  · refine (e1.trans (Cert.ProjRefIdeal.Read.val_main_v33_eq _ _ _)).trans ?_
    rw [h0, h1, h2]
    exact shift_eq m c
  · refine (e2.trans (Cert.ProjRefIdeal.Read.val_main_v34_eq _ _ _)).trans ?_
    rw [h0, h1, h2]
    exact conv_eq m c
  · refine (e3.trans (Cert.ProjRefIdeal.Read.val_main_v35_eq _ _ _)).trans ?_
    rw [h0, h1, h2]
    exact keys_eq m c
  · refine (e4.trans (Cert.ProjRefIdeal.Read.val_main_v36_eq _ _ _)).trans ?_
    rw [h0, h1, h2]
    exact vals_eq m c

end Cert.ProjE
-- ==== Proof.SampleBlock.lean ====
/-
  One grid point of the sample's projection kernel, read at an element of its output block.
-/
module
public import proofs.«01_k».proof.Proof.Norm
public import proofs.«01_k».proof.Proof.Gen.SampleIdeal.Frame
public import Idealize.ShloMosaic.Lib.Pointwise
public import Idealize.ShloMosaic.Lib.Pipeline.ValueKit
@[expose] public section
set_option maxRecDepth 16384
noncomputable section
namespace Cert.SampleV
open Cert.SampleIdeal Cert.SampleIdeal.Gen Idealize.ShloMosaic Idealize.ShloMosaic.TcCoe Cert.Rows

/-- One element of a normalized row's product with a matrix. -/
def dotRow {N : ℕ} (x g : Fin 1024 → EReal) (w : Fin 1024 → Fin N → EReal) (c : Fin N) : EReal := ∑ k, rms x g k * w k c

/-- The normalized block of rows, read at an element. -/
theorem pay6_at (x : Vec Ideal S256x1024 .f32) (g : Vec Ideal S1x1024 .f32) (r : Fin 256) (c : Fin 1024) :
    k0_pay6 (F := Ideal) x g (ix2 r c) = rms (fun k => x (ix2 r k)) (fun k => g (ix2 0 k)) c := by
  pointwise [k0_pay6]
  rfl

/-- A later column tile of the product, read at an element. -/
theorem pay1_at (h : FVec Ideal S256x1024 .bf16) (w : Vec Ideal S1024x768 .bf16) (r : Fin 256) (c : Fin 768) :
    k0_pay1 (F := Ideal) h w (ix2 r c) = ∑ k, h (ix2 r k) * w (ix2 k c) := by
  pointwise [k0_pay1]

/-- A later column tile of the product, read at an element. -/
theorem pay2_at (h : FVec Ideal S256x1024 .bf16) (w : Vec Ideal S1024x768 .bf16) (r : Fin 256) (c : Fin 768) :
    k0_pay2 (F := Ideal) h w (ix2 r c) = ∑ k, h (ix2 r k) * w (ix2 k c) := by
  pointwise [k0_pay2]

/-- A later column tile of the product, read at an element. -/
theorem pay3_at (h : FVec Ideal S256x1024 .bf16) (w : Vec Ideal S1024x768 .bf16) (r : Fin 256) (c : Fin 768) :
    k0_pay3 (F := Ideal) h w (ix2 r c) = ∑ k, h (ix2 r k) * w (ix2 k c) := by
  pointwise [k0_pay3]

/-- A later column tile of the product, read at an element. -/
theorem pay4_at (h : FVec Ideal S256x1024 .bf16) (w : Vec Ideal S1024x768 .bf16) (r : Fin 256) (c : Fin 768) :
    k0_pay4 (F := Ideal) h w (ix2 r c) = ∑ k, h (ix2 r k) * w (ix2 k c) := by
  pointwise [k0_pay4]

/-- A later column tile of the product, read at an element. -/
theorem pay5_at (h : FVec Ideal S256x1024 .bf16) (w : Vec Ideal S1024x768 .bf16) (r : Fin 256) (c : Fin 768) :
    k0_pay5 (F := Ideal) h w (ix2 r c) = ∑ k, h (ix2 r k) * w (ix2 k c) := by
  pointwise [k0_pay5]

/-- An early column tile of the product, read at an element. -/
theorem pay7_at (x : Vec Ideal S256x1024 .f32) (g : Vec Ideal S1x1024 .f32) (w : Vec Ideal S1024x768 .bf16) (r : Fin 256) (c : Fin 768) :
    k0_pay7 (F := Ideal) x g w (ix2 r c) = dotRow (fun k => x (ix2 r k)) (fun k => g (ix2 0 k)) (fun j k => w (ix2 j k)) c := by
  pointwise [k0_pay7]
  simp only [pay6_at]
  rfl

/-- An early column tile of the product, read at an element. -/
theorem pay8_at (x : Vec Ideal S256x1024 .f32) (g : Vec Ideal S1x1024 .f32) (w : Vec Ideal S1024x768 .bf16) (r : Fin 256) (c : Fin 768) :
    k0_pay8 (F := Ideal) x g w (ix2 r c) = dotRow (fun k => x (ix2 r k)) (fun k => g (ix2 0 k)) (fun j k => w (ix2 j k)) c := by
  pointwise [k0_pay8]
  simp only [pay6_at]
  rfl

/-- An early column tile of the product, read at an element. -/
theorem pay9_at (x : Vec Ideal S256x1024 .f32) (g : Vec Ideal S1x1024 .f32) (w : Vec Ideal S1024x768 .bf16) (r : Fin 256) (c : Fin 768) :
    k0_pay9 (F := Ideal) x g w (ix2 r c) = dotRow (fun k => x (ix2 r k)) (fun k => g (ix2 0 k)) (fun j k => w (ix2 j k)) c := by
  pointwise [k0_pay9]
  simp only [pay6_at]
  rfl

/-- An early column tile of the product, read at an element. -/
theorem pay10_at (x : Vec Ideal S256x1024 .f32) (g : Vec Ideal S1x1024 .f32) (w : Vec Ideal S1024x768 .bf16) (r : Fin 256) (c : Fin 768) :
    k0_pay10 (F := Ideal) x g w (ix2 r c) = dotRow (fun k => x (ix2 r k)) (fun k => g (ix2 0 k)) (fun j k => w (ix2 j k)) c := by
  pointwise [k0_pay10]
  simp only [pay6_at]
  rfl

/-- What one grid point computes: each row of its block is the normalized row times the matrix. -/
theorem out_at (x : Vec Ideal S256x1024 .f32) (g : Vec Ideal S1x1024 .f32) (w : Vec Ideal S1024x6912 .bf16) (r : Fin 256) (c : Fin 6912) :
    out0_3 (F := Ideal) x g w (ix2 r c) = dotRow (fun k => x (ix2 r k)) (fun k => g (ix2 0 k)) (fun j k => w (ix2 j k)) c := by
  unfold out0_3 k0_pay11
  rw [View.ld_unit_zero (by decide), View.ld_unit_zero (by decide)]
  canon_tiles y h
  all_goals
    obtain ⟨a, b, rfl⟩ : ∃ (a : Fin 256) (b : Fin 768), y = ix2 a b := ⟨y 0, y 1, ValueIdx.eq_ix2 y⟩
    simp only [pay1_at, pay2_at, pay3_at, pay4_at, pay5_at, pay6_at, pay7_at, pay8_at, pay9_at, pay10_at]
    obtain rfl : a = r := Fin.ext h0.symm
    refine Finset.sum_congr rfl fun k _ => congrArg₂ (· * ·) rfl ?_
    refine View.ld_unit_apply_of _ _ _ _ _ _ fun i => ?_
    match i with
    | ⟨0, _⟩ => exact (Nat.zero_add k.val).symm
    | ⟨1, _⟩ => first | exact h1 | exact h1.trans (Nat.zero_add b.val).symm
end Cert.SampleV
-- ==== Proof.SampleArray.lean ====
/-
  What the sample's projection kernel's output array holds after the run.
-/
module
public import proofs.«01_k».proof.Proof.SampleBlock
public import proofs.«01_k».proof.Proof.Columns
public import Idealize.ShloMosaic.Lib.Claim
@[expose] public section
set_option maxRecDepth 16384
noncomputable section
namespace Cert.SampleV
open Cert.SampleIdeal Cert.SampleIdeal.Gen Idealize.ShloMosaic Idealize.ShloMosaic.TcCoe Cert.Rows

variable (m : (ℓ : Loc nD τ sig) → Buf (Elt Ideal) ℓ)

/-- Grid point `t` reads block `t` of rows of window 0. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Row `r` of window 0's block at point `t` is row `256 t + r` of the array. -/
theorem emb0 (t : Fin cfg0.N) (r : Fin 256) (k : Fin 1024) :
    ((cfg0.win 0).blk t).view.emb (ix2 r k : S256x1024.Idx)
      = (ix2 ⟨256 * t.val + r.val, by have : t.val < 2 := t.isLt; omega⟩ k : S512x1024.Idx) := by
  funext a
  refine Fin.ext ?_
  match a with
  | ⟨0, _⟩ =>
    refine (win0_0.rect_emb_val t (ix2 r k : S256x1024.Idx) 0).trans ?_
    rw [(idx0 t).1]
    show t.val * 256 + r.val = 256 * t.val + r.val
    omega
  | ⟨1, _⟩ => exact win0_0.rect_emb_val_of_index_zero t 1 (idx0 t).2 (ix2 r k : S256x1024.Idx)

/-- Window 0's block at point `t`, read from its argument. -/
theorem blk0_at (c : Dev nD) (t : Fin cfg0.N) (r : Fin 256) (k : Fin 1024) :
    iblk m c 0 t (ix2 r k) = m ((c : Thread nD τ).loc main_arg0) (ix2 ⟨256 * t.val + r.val, by have : t.val < 2 := t.isLt; omega⟩ k) := by
  unfold iblk
  rw [View.read_apply]
  entry_read
  rw [emb0]
  rfl

/-- The gain of window 1, staged as one row, read from its argument. -/
theorem blk1_at (c : Dev nD) (t : Fin cfg0.N) (k : Fin 1024) :
    iblk m c 1 t (ix2 0 k) = m ((c : Thread nD τ).loc main_arg1) (ix1 k) := by
  unfold iblk
  rw [View.read_apply]
  entry_read
  have e : ((cfg0.win 1).blk t).view.emb (ix2 0 k : S1x1024.Idx) = (ix2 0 k : S1x1024.Idx) := by
    funext a
    exact Fin.ext (win0_1.rect_emb_val_of_index_zero t a (by match a with | ⟨0, _⟩ => rfl | ⟨1, _⟩ => rfl) (ix2 0 k : S1x1024.Idx))
  rw [e]
  show shapeCast S1x1024 _ _ (ix2 0 k) = _
  pointwise

/-- The matrix as the host leaves it: its columns reordered, with 116 columns of zeros. -/
theorem entry_w (c : Dev nD) (j : Fin 1024) (k : Fin 6912) :
    V m c main_v8 (ix2 j k) = pick (fun k => m ((c : Thread nD τ).loc main_arg2) (ix2 j k)) k := by
  show StableHlo.after (List.flatten [hostOps0, hostOps0_1, hostOps0_2]) (fun b => m (c, b)) (Proc.devRef .tc main_v8) (ix2 j k) = _
  simp only [hostOps0, hostOps0_1, hostOps0_2, List.flatten_cons, List.flatten_nil, List.append_nil, List.cons_append, List.nil_append]
  after_results
  pointwise
  after_results_simp
  simp -implicitDefEqProofs only [StableHlo.TRef.toBuf, StableHlo.TRef.ofBuf, cast_eq]
  pointwise
  unfold pick
  iterate 4 refine dite_congr rfl (fun _ => rfl) fun _ => ?_
  refine dite_congr rfl (fun _ => dite_congr rfl (fun _ => rfl) fun _ => ?_) fun _ => rfl
  show ((BitVec.toInt 0#32 : ℝ) : EReal) = 0
  simp

/-- The matrix of window 2, its columns reordered and padded, read from its argument. -/
theorem blk2_at (c : Dev nD) (t : Fin cfg0.N) (j : Fin 1024) (k : Fin 6912) :
    iblk m c 2 t (ix2 j k) = pick (fun k => m ((c : Thread nD τ).loc main_arg2) (ix2 j k)) k := by
  unfold iblk
  rw [View.read_apply]
  have e : ((cfg0.win 2).blk t).view.emb (ix2 j k : S1024x6912.Idx) = (ix2 j k : S1024x6912.Idx) := by
    funext a
    exact Fin.ext (win0_2.rect_emb_val_of_index_zero t a (by match a with | ⟨0, _⟩ => rfl | ⟨1, _⟩ => rfl) (ix2 j k : S1024x6912.Idx))
  rw [e]
  exact entry_w m c j k

/-- Grid point `t` writes block `t` of rows of window 3. -/
theorem idx3 : ∀ t : Fin cfg0.N, win0_3.index t 0 = t.val ∧ win0_3.index t 1 = 0 :=
  (by decide +kernel : ∀ t : Fin grid0.N, win0_3.index t 0 = t.val ∧ win0_3.index t 1 = 0)

/-- Row `r` of window 3's block at point `t` is row `256 t + r` of the array. -/
theorem emb3 (t : Fin cfg0.N) (r : Fin 256) (k : Fin 6912) :
    ((cfg0.win 3).blk t).view.emb (ix2 r k : S256x6912.Idx)
      = (ix2 ⟨256 * t.val + r.val, by have : t.val < 2 := t.isLt; omega⟩ k : S512x6912.Idx) := by
  funext a
  refine Fin.ext ?_
  match a with
  | ⟨0, _⟩ =>
    refine (win0_3.rect_emb_val t (ix2 r k : S256x6912.Idx) 0).trans ?_
    rw [(idx3 t).1]
    show t.val * 256 + r.val = 256 * t.val + r.val
    omega
  | ⟨1, _⟩ => exact win0_3.rect_emb_val_of_index_zero t 1 (idx3 t).2 (ix2 r k : S256x6912.Idx)

/-- Different grid points write different blocks. -/
theorem apart (t t' : Fin cfg0.N) (hne : t ≠ t') :
    Disjoint ((cfg0.win 3).blk t).view.set ((cfg0.win 3).blk t').view.set :=
  (cfg0.win 3).disjoint_blk fun h => hne (Fin.ext (by rw [← (idx3 t).1, ← (idx3 t').1]; exact congrFun h 0))

/-- An element of the final array under block `t` is what point `t` computed there. -/
theorem arr_blk (c : Dev nD) (t : Fin cfg0.N) (y : S256x6912.Idx) :
    (dats m 0 c).arrAt 3 cfg0.N (((cfg0.win 3).blk t).view.emb y)
      = out0_3 (F := Ideal) (iblk m c 0 t) (iblk m c 1 t) (iblk m c 2 t) y := by
  have h := congrFun ((dats m 0 c).read_blk_arrAt_eq_flushed 3 (fun t t' _ _ => apart t t') cfg0.N t t.isLt (flush0_3 t)) y
  rw [View.read_apply] at h
  refine h.trans ?_
  show (cfg0.win 3).cut (grid0.coords t) ((dats m 0 c).after 3 t) y = _
  rw [after0_3]
  rfl

/-- The final array: each row is the normalized row of the first argument times the reordered matrix. -/
theorem arr_at (c : Dev nD) (r : Fin 512) (k : Fin 6912) :
    (dats m 0 c).arrAt 3 cfg0.N (ix2 r k : S512x6912.Idx)
      = pick (fun k => ∑ j, rms (fun k => m ((c : Thread nD τ).loc main_arg0) (ix2 r k)) (fun k => m ((c : Thread nD τ).loc main_arg1) (ix1 k)) j
          * m ((c : Thread nD τ).loc main_arg2) (ix2 j k)) k := by
  have hlt : r.val / 256 < 2 := by omega
  obtain ⟨t, ht⟩ : ∃ t : Fin cfg0.N, t.val = r.val / 256 := ⟨⟨r.val / 256, hlt⟩, rfl⟩
  have hr : (⟨256 * t.val + r.val % 256, by rw [ht]; omega⟩ : Fin 512) = r := Fin.ext (by simp only [ht]; omega)
  have e : ((cfg0.win 3).blk t).view.emb (ix2 ⟨r.val % 256, by omega⟩ k : S256x6912.Idx) = (ix2 r k : S512x6912.Idx) := by
    rw [emb3]; exact congrArg (fun r => (ix2 r k : S512x6912.Idx)) hr
  have b0 : ∀ k, iblk m c 0 t (ix2 ⟨r.val % 256, by omega⟩ k : S256x1024.Idx) = m ((c : Thread nD τ).loc main_arg0) (ix2 r k : S512x1024.Idx) :=
    fun k => (blk0_at m c t _ k).trans (congrArg (fun r => m ((c : Thread nD τ).loc main_arg0) (ix2 r k : S512x1024.Idx)) hr)
  rw [← e, arr_blk, out_at]
  simp only [b0, blk1_at, blk2_at, dotRow]
  exact sum_pick _ (fun j k => m ((c : Thread nD τ).loc main_arg2) (ix2 j k)) k
end Cert.SampleV
-- ==== Proof.SampleTail.lean ====
/-
  What the host cuts out of the projection: the state that a layer hands on.
-/
module
public import proofs.«01_k».proof.Proof.SampleArray
public import Idealize.ShloMosaic.Lib.Pointwise
@[expose] public section
set_option maxRecDepth 16384
noncomputable section
namespace Cert.SampleT
open Cert.SampleIdeal Cert.SampleIdeal.Gen Idealize.ShloMosaic Idealize.ShloMosaic.TcCoe

/-- The projection by streams and frames. -/
def frames (y : Vec Ideal S512x6912 .f32) : Vec Ideal S16x32x6912 .f32 :=
  shapeCast _ y shapeCasts_S512x6912_S16x32x6912

/-- The last row of the token-shift columns. -/
def shift (y : Vec Ideal S512x6912 .f32) : Vec Ideal S16x1408 .f32 :=
  shapeCast _ (extractStridedSlice S16x1x1408 ![0, 31, 4224] (frames y) slices_S16x32x6912_S16x1x1408_0_31_4224)
    shapeCasts_S16x1x1408_S16x1408

/-- The last three rows of the columns of the short convolution. -/
def conv (y : Vec Ideal S512x6912 .f32) : Vec Ideal S16x3x1152 .f32 :=
  extractStridedSlice S16x3x1152 ![0, 29, 5760] (frames y) slices_S16x32x6912_S16x3x1152_0_29_5760

/-- The keys, by heads. -/
def keys (y : Vec Ideal S512x6912 .f32) : Vec Ideal S16x32x4x64 .f32 :=
  shapeCast _ (extractStridedSlice S16x32x256 ![0, 0, 3328] (frames y) slices_S16x32x6912_S16x32x256_0_0_3328)
    shapeCasts_S16x32x256_S16x32x4x64

/-- The values, by heads. -/
def vals (y : Vec Ideal S512x6912 .f32) : Vec Ideal S16x32x4x64 .f32 :=
  shapeCast _ (extractStridedSlice S16x32x256 ![0, 0, 3584] (frames y) slices_S16x32x6912_S16x32x256_0_0_3584)
    shapeCasts_S16x32x256_S16x32x4x64

variable (y : Vec Ideal S512x6912 .f32)

/-- A row of a stream is a row of the projection. -/
theorem frames_at (b : Fin 16) (t : Fin 32) (k : Fin 6912) :
    frames y (ix3 b t k) = y (ix2 ⟨b.val * 32 + t.val, by omega⟩ k) := by
  pointwise [frames]

/-- A row of the token-shift columns is the last row of its stream. -/
theorem shift_at (b : Fin 16) (k : Fin 1408) :
    shift y (ix2 b k) = y (ix2 ⟨b.val * 32 + 31, by omega⟩ ⟨4224 + k.val, by omega⟩) := by
  pointwise [shift]
  exact frames_at y b 31 _

/-- A row of the convolution's state is one of the last three rows of its stream. -/
theorem conv_at (b : Fin 16) (t : Fin 3) (k : Fin 1152) :
    conv y (ix3 b t k) = y (ix2 ⟨b.val * 32 + (29 + t.val), by omega⟩ ⟨5760 + k.val, by omega⟩) := by
  pointwise [conv]
  exact frames_at y b _ _

/-- A kept key is a key of a row of its stream. -/
theorem keys_at (b : Fin 16) (t : Fin 32) (h : Fin 4) (d : Fin 64) :
    keys y (ix4 b t h d) = y (ix2 ⟨b.val * 32 + t.val, by omega⟩ ⟨3328 + (h.val * 64 + d.val), by omega⟩) := by
  pointwise [keys]
  exact frames_at y b _ _

/-- A kept value is a value of a row of its stream. -/
theorem vals_at (b : Fin 16) (t : Fin 32) (h : Fin 4) (d : Fin 64) :
    vals y (ix4 b t h d) = y (ix2 ⟨b.val * 32 + t.val, by omega⟩ ⟨3584 + (h.val * 64 + d.val), by omega⟩) := by
  pointwise [vals]
  exact frames_at y b _ _

variable (m : (ℓ : Loc nD τ sig) → Buf (Elt Ideal) ℓ) (g : Dev nD → PrngReg)

/-- The host's operations after the call leave these four results, cut out of the call's array. -/
theorem tail (c : Dev nD) :
    Pipeline.afterTail₀ cfgs (dats m) 0 (V0 m) [hostOps1] c main_v15 = shift ((dats m 0 c).arrAt 3 cfg0.N)
    ∧ Pipeline.afterTail₀ cfgs (dats m) 0 (V0 m) [hostOps1] c main_v16 = conv ((dats m 0 c).arrAt 3 cfg0.N)
    ∧ Pipeline.afterTail₀ cfgs (dats m) 0 (V0 m) [hostOps1] c main_v17 = keys ((dats m 0 c).arrAt 3 cfg0.N)
    ∧ Pipeline.afterTail₀ cfgs (dats m) 0 (V0 m) [hostOps1] c main_v18 = vals ((dats m 0 c).arrAt 3 cfg0.N) := by
  have e : Pipeline.withArrays cfg0.spec c (V0 m c) (fun w => (dats m 0 c).arrAt w cfg0.N) (Proc.devRef .tc main_v10)
      = (dats m 0 c).arrAt 3 cfg0.N :=
    Pipeline.withArrays_arr cfg0.spec launch0.win.arr_inj c (V0 m c) (fun w => (dats m 0 c).arrAt w cfg0.N) 3
  have all : ∀ b, Pipeline.afterTail₀ cfgs (dats m) 0 (V0 m) [hostOps1] c b
      = StableHlo.after (List.flatten [hostOps1]) (Pipeline.withArrays cfg0.spec c (V0 m c) (fun w => (dats m 0 c).arrAt w cfg0.N)) (Proc.devRef .tc b) :=
    fun _ => rfl
  simp only [all]
  generalize Pipeline.withArrays cfg0.spec c (V0 m c) (fun w => (dats m 0 c).arrAt w cfg0.N) = W at e ⊢
  simp only [hostOps1, List.flatten_cons, List.flatten_nil, List.append_nil, List.cons_append, List.nil_append]
  rw [← e]
  refine ⟨?_, ?_, ?_, ?_⟩ <;> after_results <;> rfl

/-- The kernel ends with its array, the four results cut out of it, and the arguments unchanged. -/
theorem run : θ_run defs (onTc (τ := τ) (main (F := Ideal))) ⟨m, fun _ => 0, g⟩ fun r => ∀ c : Dev nD,
    r.2.mem ((c.tc : Thread nD τ).loc main_v10) = (dats m 0 c).arrAt 3 cfg0.N
    ∧ r.2.mem ((c.tc : Thread nD τ).loc main_v15) = shift ((dats m 0 c).arrAt 3 cfg0.N)
    ∧ r.2.mem ((c.tc : Thread nD τ).loc main_v16) = conv ((dats m 0 c).arrAt 3 cfg0.N)
    ∧ r.2.mem ((c.tc : Thread nD τ).loc main_v17) = keys ((dats m 0 c).arrAt 3 cfg0.N)
    ∧ r.2.mem ((c.tc : Thread nD τ).loc main_v18) = vals ((dats m 0 c).arrAt 3 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine θ_run_mono (θ_run_and (run_main m g) (unchanged m g)) fun r h c => ?_
  obtain ⟨t1, t2, t3, t4⟩ := tail m c
  refine ⟨(h.1 c).1 3, ?_, ?_, ?_, ?_, h.2 c⟩
  · exact ((h.1 c).2 main_v15 (Pipeline.mem_restRefs_of main_v15 (by decide) (by decide))).trans t1
  · exact ((h.1 c).2 main_v16 (Pipeline.mem_restRefs_of main_v16 (by decide) (by decide))).trans t2
  · exact ((h.1 c).2 main_v17 (Pipeline.mem_restRefs_of main_v17 (by decide) (by decide))).trans t3
  · exact ((h.1 c).2 main_v18 (Pipeline.mem_restRefs_of main_v18 (by decide) (by decide))).trans t4
end Cert.SampleT
-- ==== Proof.SampleRef.lean ====
/-
  What the sample's projection reference computes, row by row.
-/
module
public import proofs.«01_k».proof.Proof.Norm
public import proofs.«01_k».proof.Proof.Columns
public import proofs.«01_k».proof.Proof.Gen.SampleRefIdeal.Read
public import Idealize.ShloMosaic.Lib.Pointwise
@[expose] public section
set_option maxRecDepth 16384
noncomputable section
namespace Cert.SampleR
open Cert.SampleRefIdeal Cert.SampleRefIdeal.Gen Cert.SampleRefIdeal.Read Idealize.ShloMosaic Idealize.ShloMosaic.TcCoe Cert.Rows

variable (x0 : Vec Ideal S512x1024 .f32) (x1 : Vec Ideal S1024 .f32) (x2 : Vec Ideal S1024x6796 .f32)

/-- The reference's normalized rows, read at an element. -/
theorem norm_at (r : Fin 512) (c : Fin 1024) :
    val_main_v12 (F := Ideal) x0 x1 (ix2 r c) = rms (fun k => x0 (ix2 r k)) (fun k => x1 (ix1 k)) c := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's product, read at an element. -/
theorem dot_at (r : Fin 512) (c : Fin 6796) :
    val_main_v13 (F := Ideal) x0 x1 x2 (ix2 r c)
      = ∑ k, rms (fun k => x0 (ix2 r k)) (fun k => x1 (ix1 k)) k * x2 (ix2 k c) := by
  pointwise [val_main_v13]
  simp only [norm_at]

/-- The reference's result: each row is the normalized row of the first argument times the matrix, reordered. -/
theorem ref_at (r : Fin 512) (k : Fin 6912) :
    val_main_v21 (F := Ideal) x0 x1 x2 (ix2 r k)
      = pick (fun k => ∑ j, rms (fun k => x0 (ix2 r k)) (fun k => x1 (ix1 k)) j * x2 (ix2 j k)) k := by
  have h := dot_at x0 x1 x2 r
  unfold val_main_v21 val_main_v20 val_main_v19 val_main_v18 val_main_v17 val_main_v16 val_main_v15 val_main_v14
  generalize val_main_v13 (F := Ideal) x0 x1 x2 = y at h ⊢
  pointwise [val_main_cst_2]
  simp only [h]
  rw [pick_flat]

/-- One column of the product's row `r`. -/
def col (r : Fin 512) (k : Fin 6796) : EReal := ∑ j, rms (fun k => x0 (ix2 r k)) (fun k => x1 (ix1 k)) j * x2 (ix2 j k)

/-- The reference's last row of the token-shift columns. -/
theorem shift_at (b : Fin 16) (k : Fin 1408) :
    val_main_v32 (F := Ideal) x0 x1 x2 (ix2 b k) = col x0 x1 x2 ⟨b.val * 32 + 31, by omega⟩ ⟨k.val, by omega⟩ := by
  have h := dot_at x0 x1 x2
  unfold col val_main_v32 val_main_v31 val_main_v30 val_main_v14
  generalize val_main_v13 (F := Ideal) x0 x1 x2 = y at h ⊢
  pointwise
  exact h _ _

/-- The reference's last rows of the columns of the short convolution. -/
theorem conv_at (x3 : Vec Ideal S16x3x1152 .f32) (b : Fin 16) (t : Fin 3) (k : Fin 1152) :
    val_main_v33 (F := Ideal) x0 x1 x2 x3 (ix3 b t k)
      = col x0 x1 x2 ⟨b.val * 32 + (29 + t.val), by omega⟩ ⟨1408 + k.val, by omega⟩ := by
  have h := dot_at x0 x1 x2
  unfold col val_main_v33 val_main_v29 val_main_v28 val_main_v15
  generalize val_main_v13 (F := Ideal) x0 x1 x2 = y at h ⊢
  pointwise
  rw [dif_neg (by omega)]
  refine Eq.trans (congrArg (fun r => y (ix2 r _)) (Fin.ext ?_)) (h _ _)
  dsimp only
  omega

/-- The reference's kept keys. -/
theorem keys_at (b : Fin 16) (t : Fin 32) (e : Fin 4) (d : Fin 64) :
    val_main_v26 (F := Ideal) x0 x1 x2 (ix4 b t e d)
      = col x0 x1 x2 ⟨b.val * 32 + t.val, by omega⟩ ⟨2956 + (256 + (e.val * 64 + d.val)), by omega⟩ := by
  have h := dot_at x0 x1 x2
  unfold col val_main_v26 val_main_v23 val_main_v18
  generalize val_main_v13 (F := Ideal) x0 x1 x2 = y at h ⊢
  pointwise
  exact h _ _

/-- The reference's kept values. -/
theorem vals_at (b : Fin 16) (t : Fin 32) (e : Fin 4) (d : Fin 64) :
    val_main_v27 (F := Ideal) x0 x1 x2 (ix4 b t e d)
      = col x0 x1 x2 ⟨b.val * 32 + t.val, by omega⟩ ⟨2956 + (512 + (e.val * 64 + d.val)), by omega⟩ := by
  have h := dot_at x0 x1 x2
  unfold col val_main_v27 val_main_v24 val_main_v18
  generalize val_main_v13 (F := Ideal) x0 x1 x2 = y at h ⊢
  pointwise
  exact h _ _
end Cert.SampleR
-- ==== Proof.SampleEq.lean ====
/-
  The sample's projection kernel and its reference end with equal results.
-/
module
public import proofs.«01_k».proof.Defs
public import proofs.«01_k».proof.Proof.SampleArray
public import proofs.«01_k».proof.Proof.SampleTail
public import proofs.«01_k».proof.Proof.SampleRef
public import proofs.«01_k».proof.Proof.Gen.SampleRefIdeal
public import Idealize.ShloMosaic.Lib.Claim
public import Idealize.ShloMosaic.Lib.Quiescent
@[expose] public section
set_option maxRecDepth 16384
noncomputable section
namespace Cert.SampleE
open Idealize.ShloMosaic Idealize.ShloMosaic.TcCoe

/-- The reference ends with its arguments unchanged and every counter at zero. -/
theorem quiescent_ref : Cert.quiescent_SampleRefIdeal := by
  intro m g _
  refine θ_run_mono (Cert.SampleRefIdeal.Value.run m g) fun r h => ⟨fun c => (h c).2.2.2.2.2, ?_⟩
  exact sem_eq_zero_of_no_sems (by decide) r.2

variable (m : (ℓ : Loc Cert.SampleIdeal.nD Cert.SampleIdeal.τ Cert.SampleIdeal.sig) → Buf (Elt Ideal) ℓ)
  (c : Dev Cert.SampleIdeal.nD)

/-- The kernel's array after the run. -/
abbrev arr : Vec Ideal Cert.SampleIdeal.S512x6912 .f32 := (Cert.SampleIdeal.Gen.dats m 0 c).arrAt 3 Cert.SampleIdeal.cfg0.N

/-- The first argument: the rows. -/
abbrev a0 : Vec Ideal Cert.SampleIdeal.S512x1024 .f32 := m ((c.tc : Thread Cert.SampleIdeal.nD Cert.SampleIdeal.τ).loc Cert.SampleIdeal.main_arg0)
/-- The second argument: the gain. -/
abbrev a1 : Vec Ideal Cert.SampleIdeal.S1024 .f32 := m ((c.tc : Thread Cert.SampleIdeal.nD Cert.SampleIdeal.τ).loc Cert.SampleIdeal.main_arg1)
/-- The third argument: the matrix. -/
abbrev a2 : Vec Ideal Cert.SampleIdeal.S1024x6796 .f32 := m ((c.tc : Thread Cert.SampleIdeal.nD Cert.SampleIdeal.τ).loc Cert.SampleIdeal.main_arg2)

/-- The fourth argument: the rows before the convolution. -/
abbrev a3 : Vec Ideal Cert.SampleIdeal.S16x3x1152 .f32 := m ((c.tc : Thread Cert.SampleIdeal.nD Cert.SampleIdeal.τ).loc Cert.SampleIdeal.main_arg3)

/-- The two projections agree when the arguments do. -/
theorem result_eq : Cert.SampleRefIdeal.Read.val_main_v21 (F := Ideal) (a0 m c) (a1 m c) (a2 m c) = arr m c := by
  funext i
  obtain ⟨r, k, rfl⟩ : ∃ (r : Fin 512) (k : Fin 6912), i = ix2 r k := ⟨i 0, i 1, ValueIdx.eq_ix2 i⟩
  exact (Cert.SampleR.ref_at _ _ _ r k).trans (Cert.SampleV.arr_at m c r k).symm

/-- The last rows of the token-shift columns agree. -/
theorem shift_eq : Cert.SampleRefIdeal.Read.val_main_v32 (F := Ideal) (a0 m c) (a1 m c) (a2 m c) = Cert.SampleT.shift (arr m c) := by
  funext i
  obtain ⟨b, k, rfl⟩ : ∃ (b : Fin 16) (k : Fin 1408), i = ix2 b k := ⟨i 0, i 1, ValueIdx.eq_ix2 i⟩
  refine (Cert.SampleR.shift_at _ _ _ b k).trans (Eq.symm ?_)
  exact (Cert.SampleT.shift_at _ b k).trans ((Cert.SampleV.arr_at m c _ _).trans (Cert.Rows.pick_shift _ k))

/-- The last rows of the convolution's columns agree. -/
theorem conv_eq : Cert.SampleRefIdeal.Read.val_main_v33 (F := Ideal) (a0 m c) (a1 m c) (a2 m c) (a3 m c) = Cert.SampleT.conv (arr m c) := by
  funext i
  obtain ⟨b, t, k, rfl⟩ : ∃ (b : Fin 16) (t : Fin 3) (k : Fin 1152), i = ix3 b t k := ⟨i 0, i 1, i 2, ValueIdx.eq_ix3 i⟩
  refine (Cert.SampleR.conv_at _ _ _ _ b t k).trans (Eq.symm ?_)
  exact (Cert.SampleT.conv_at _ b t k).trans ((Cert.SampleV.arr_at m c _ _).trans (Cert.Rows.pick_conv _ k))

/-- The kept keys agree. -/
theorem keys_eq : Cert.SampleRefIdeal.Read.val_main_v26 (F := Ideal) (a0 m c) (a1 m c) (a2 m c) = Cert.SampleT.keys (arr m c) := by
  funext i
  obtain ⟨b, t, h, d, rfl⟩ : ∃ (b : Fin 16) (t : Fin 32) (h : Fin 4) (d : Fin 64), i = ix4 b t h d := ⟨i 0, i 1, i 2, i 3, ValueIdx.eq_ix4 i⟩
  refine (Cert.SampleR.keys_at _ _ _ b t h d).trans (Eq.symm ?_)
  exact (Cert.SampleT.keys_at _ b t h d).trans ((Cert.SampleV.arr_at m c _ _).trans (Cert.Rows.pick_keys _ h d))

/-- The kept values agree. -/
theorem vals_eq : Cert.SampleRefIdeal.Read.val_main_v27 (F := Ideal) (a0 m c) (a1 m c) (a2 m c) = Cert.SampleT.vals (arr m c) := by
  funext i
  obtain ⟨b, t, h, d, rfl⟩ : ∃ (b : Fin 16) (t : Fin 32) (h : Fin 4) (d : Fin 64), i = ix4 b t h d := ⟨i 0, i 1, i 2, i 3, ValueIdx.eq_ix4 i⟩
  refine (Cert.SampleR.vals_at _ _ _ b t h d).trans (Eq.symm ?_)
  exact (Cert.SampleT.vals_at _ b t h d).trans ((Cert.SampleV.arr_at m c _ _).trans (Cert.Rows.pick_vals _ h d))

/-- Kernel and reference, from equal arguments, end with equal results and the arguments unchanged. -/
theorem algebraic : Cert.algebraic_SampleIdeal_SampleRefIdeal := by
  intro m g m' g' _ hag
  refine ⟨fun c => arr m c, fun c => Cert.SampleT.shift (arr m c), fun c => Cert.SampleT.conv (arr m c),
    fun c => Cert.SampleT.keys (arr m c), fun c => Cert.SampleT.vals (arr m c), Cert.SampleT.run m g, ?_⟩
  refine θ_run_mono (Cert.SampleRefIdeal.Value.run m' g') fun r h c => ?_
  obtain ⟨h0, h1, h2, h3⟩ := hag c
  obtain ⟨e0, e1, e2, e3, e4, ha⟩ := h c
  refine ⟨?_, ?_, ?_, ?_, ?_, ha⟩
  · rw [e0, Cert.SampleRefIdeal.Read.val_main_v21_eq, h0, h1, h2]
    exact result_eq m c
  · refine (e1.trans (Cert.SampleRefIdeal.Read.val_main_v32_eq _ _ _)).trans ?_
    rw [h0, h1, h2]
    exact shift_eq m c
  · refine (e2.trans (Cert.SampleRefIdeal.Read.val_main_v33_eq _ _ _ _)).trans ?_
    rw [h0, h1, h2, h3]
    exact conv_eq m c
  · refine (e3.trans (Cert.SampleRefIdeal.Read.val_main_v26_eq _ _ _)).trans ?_
    rw [h0, h1, h2]
    exact keys_eq m c
  · refine (e4.trans (Cert.SampleRefIdeal.Read.val_main_v27_eq _ _ _)).trans ?_
    rw [h0, h1, h2]
    exact vals_eq m c

end Cert.SampleE
-- ==== Proof.MergeBlock.lean ====
/-
  One grid point of the merging kernel, read at an element of its output block, and its reference row by row.
-/
module
public import proofs.«01_k».proof.Proof.Norm
public import proofs.«01_k».proof.Proof.Gen.MergeIdeal.Value
public import Idealize.ShloMosaic.Lib.Pointwise
public import Idealize.ShloMosaic.Lib.Pipeline.ValueKit
@[expose] public section
set_option maxRecDepth 16384
noncomputable section
namespace Cert.Rows
open Idealize.ShloMosaic

/-- The logistic function of one gate. -/
def gate (x : EReal) : EReal := Ideal.div 1 (1 + Ideal.exp (-x))

/-- One row of the merged streams: three products, each scaled element by element by its gate. -/
def streams (s0 s1 : Fin 384 → EReal) (s2 : Fin 256 → EReal) (z0 z1 z2 : Fin 1024 → EReal) (w0 w1 : Fin 384 → Fin 1024 → EReal)
    (w2 : Fin 256 → Fin 1024 → EReal) (c : Fin 1024) : EReal :=
  gate (z0 c) * (∑ k, s0 k * w0 k c) + gate (z1 c) * (∑ k, s1 k * w1 k c) + gate (z2 c) * (∑ k, s2 k * w2 k c)

/-- One row of the merging step: the merged streams through the output matrix, normalized, added to the row. -/
def merge (x : Fin 1024 → EReal) (s : Fin 1024 → EReal) (w : Fin 1024 → Fin 1024 → EReal) (g : Fin 1024 → EReal) (c : Fin 1024) : EReal :=
  x c + rms (fun c => ∑ k, s k * w k c) g c

end Cert.Rows
namespace Cert.MergeV
open Cert.MergeIdeal Cert.MergeIdeal.Gen Idealize.ShloMosaic Idealize.ShloMosaic.TcCoe Cert.Rows

/-- The first two gated products, read at an element. -/
theorem pay2_at (z0 : Vec Ideal S512x1024 .f32) (s0 : Vec Ideal S512x384 .f32) (w0 : Vec Ideal S384x1024 .bf16)
    (z1 : Vec Ideal S512x1024 .f32) (s1 : Vec Ideal S512x384 .f32) (w1 : Vec Ideal S384x1024 .bf16) (r : Fin 512) (c : Fin 1024) :
    k0_pay2 (F := Ideal) z0 s0 w0 z1 s1 w1 (ix2 r c)
      = gate (z0 (ix2 r c)) * (∑ k, s0 (ix2 r k) * w0 (ix2 k c)) + gate (z1 (ix2 r c)) * (∑ k, s1 (ix2 r k) * w1 (ix2 k c)) := by
  pointwise [k0_pay2]
  simp only [gate, zero_sub]

/-- The third gate's denominator, read at an element. -/
theorem pay3_at (z : Vec Ideal S512x1024 .f32) (r : Fin 512) (c : Fin 1024) :
    k0_pay3 (F := Ideal) z (ix2 r c) = 1 + Ideal.exp (-z (ix2 r c)) := by
  pointwise [k0_pay3]
  simp only [zero_sub]

/-- What one grid point computes: each row of its block is the merging step of that row. -/
theorem pay1_at (x : Vec Ideal S512x1024 .f32) (s0 s1 : Vec Ideal S512x384 .f32) (s2 : Vec Ideal S512x256 .f32)
    (z0 z1 z2 : Vec Ideal S512x1024 .f32) (w0 w1 : Vec Ideal S384x1024 .bf16) (w2 : Vec Ideal S256x1024 .bf16)
    (w : Vec Ideal S1024x1024 .bf16) (g : Vec Ideal S1x1024 .f32) (r : Fin 512) (c : Fin 1024) :
    k0_pay1 (F := Ideal) (k0_pay2 z0 s0 w0 z1 s1 w1) (k0_pay3 z2) s2 w2 w x g (ix2 r c)
      = merge (fun k => x (ix2 r k)) (streams (fun k => s0 (ix2 r k)) (fun k => s1 (ix2 r k)) (fun k => s2 (ix2 r k))
          (fun k => z0 (ix2 r k)) (fun k => z1 (ix2 r k)) (fun k => z2 (ix2 r k)) (fun j k => w0 (ix2 j k))
          (fun j k => w1 (ix2 j k)) (fun j k => w2 (ix2 j k))) (fun j k => w (ix2 j k)) (fun k => g (ix2 0 k)) c := by
  pointwise [k0_pay1]
  simp only [pay2_at, pay3_at]
  rfl

variable (m : (ℓ : Loc nD τ sig) → Buf (Elt Ideal) ℓ)

/-- An element of the final array under block `t` is what point `t` computed there. -/
theorem arr_blk (c : Dev nD) (t : Fin cfg0.N) (y : S512x1024.Idx) :
    (dats m 0 c).arrAt 12 cfg0.N (((cfg0.win 12).blk t).view.emb y)
      = k0_pay1 (F := Ideal) (k0_pay2 (X0_4 m c t) (iblk m c 1 t) (iblk m c 7 t) (X0_5 m c t) (iblk m c 2 t) (iblk m c 8 t))
          (k0_pay3 (X0_6 m c t)) (iblk m c 3 t) (iblk m c 9 t) (iblk m c 10 t) (iblk m c 0 t) (iblk m c 11 t) y := by
  have h := congrFun ((Value.blocks12 m c t (flush0_12 t)).trans (Value.flushed12_A m c t)) y
  rw [View.read_apply] at h
  refine h.trans ?_
  show out0_A_12 c _ _ _ _ _ _ _ _ _ _ _ _ _ _ _ _ _ _ _ _ _ _ _ _ _ _ _ _ _ _ _ _ _ _ _ _ _ _ _ y = _
  refine congrFun ?_ y
  frame_out
end Cert.MergeV
-- ==== Proof.MergeArray.lean ====
/-
  What the merging kernel's output array holds after the run.
-/
module
public import proofs.«01_k».proof.Proof.MergeBlock
public import Idealize.ShloMosaic.Lib.Claim
@[expose] public section
set_option maxRecDepth 16384
noncomputable section
namespace Cert.MergeV
open Cert.MergeIdeal Cert.MergeIdeal.Gen Idealize.ShloMosaic Idealize.ShloMosaic.TcCoe Cert.Rows

variable (m : (ℓ : Loc nD τ sig) → Buf (Elt Ideal) ℓ)

/-- Grid point `t` reads block `t` of rows of window 0. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Row `r` of window 0's block at point `t` is row `512 t + r` of the array. -/
theorem emb0 (t : Fin cfg0.N) (r : Fin 512) (k : Fin 1024) :
    ((cfg0.win 0).blk t).view.emb (ix2 r k : S512x1024.Idx)
      = (ix2 ⟨512 * t.val + r.val, by have : t.val < 128 := t.isLt; omega⟩ k : S65536x1024.Idx) := by
  funext a
  refine Fin.ext ?_
  match a with
  | ⟨0, _⟩ =>
    refine (win0_0.rect_emb_val t (ix2 r k : S512x1024.Idx) 0).trans ?_
    rw [(idx0 t).1]
    show t.val * 512 + r.val = 512 * t.val + r.val
    omega
  | ⟨1, _⟩ => exact win0_0.rect_emb_val_of_index_zero t 1 (idx0 t).2 (ix2 r k : S512x1024.Idx)

/-- Window 0's block at point `t`, read from its argument. -/
theorem blk0_at (c : Dev nD) (t : Fin cfg0.N) (r : Fin 512) (k : Fin 1024) :
    iblk m c 0 t (ix2 r k) = m ((c : Thread nD τ).loc main_arg0) (ix2 ⟨512 * t.val + r.val, by have : t.val < 128 := t.isLt; omega⟩ k) := by
  unfold iblk
  rw [View.read_apply]
  entry_read
  rw [emb0]
  rfl

/-- Grid point `t` reads block `t` of rows of window 1. -/
theorem idx1 : ∀ t : Fin cfg0.N, win0_1.index t 0 = t.val ∧ win0_1.index t 1 = 0 :=
  (by decide +kernel : ∀ t : Fin grid0.N, win0_1.index t 0 = t.val ∧ win0_1.index t 1 = 0)

/-- Row `r` of window 1's block at point `t` is row `512 t + r` of the array. -/
theorem emb1 (t : Fin cfg0.N) (r : Fin 512) (k : Fin 384) :
    ((cfg0.win 1).blk t).view.emb (ix2 r k : S512x384.Idx)
      = (ix2 ⟨512 * t.val + r.val, by have : t.val < 128 := t.isLt; omega⟩ k : S65536x384.Idx) := by
  funext a
  refine Fin.ext ?_
  match a with
  | ⟨0, _⟩ =>
    refine (win0_1.rect_emb_val t (ix2 r k : S512x384.Idx) 0).trans ?_
    rw [(idx1 t).1]
    show t.val * 512 + r.val = 512 * t.val + r.val
    omega
  | ⟨1, _⟩ => exact win0_1.rect_emb_val_of_index_zero t 1 (idx1 t).2 (ix2 r k : S512x384.Idx)

/-- Window 1's block at point `t`, read from its argument. -/
theorem blk1_at (c : Dev nD) (t : Fin cfg0.N) (r : Fin 512) (k : Fin 384) :
    iblk m c 1 t (ix2 r k) = m ((c : Thread nD τ).loc main_arg1) (ix2 ⟨512 * t.val + r.val, by have : t.val < 128 := t.isLt; omega⟩ k) := by
  unfold iblk
  rw [View.read_apply]
  entry_read
  rw [emb1]
  rfl

/-- Grid point `t` reads block `t` of rows of window 2. -/
theorem idx2 : ∀ t : Fin cfg0.N, win0_2.index t 0 = t.val ∧ win0_2.index t 1 = 0 :=
  (by decide +kernel : ∀ t : Fin grid0.N, win0_2.index t 0 = t.val ∧ win0_2.index t 1 = 0)

/-- Row `r` of window 2's block at point `t` is row `512 t + r` of the array. -/
theorem emb2 (t : Fin cfg0.N) (r : Fin 512) (k : Fin 384) :
    ((cfg0.win 2).blk t).view.emb (ix2 r k : S512x384.Idx)
      = (ix2 ⟨512 * t.val + r.val, by have : t.val < 128 := t.isLt; omega⟩ k : S65536x384.Idx) := by
  funext a
  refine Fin.ext ?_
  match a with
  | ⟨0, _⟩ =>
    refine (win0_2.rect_emb_val t (ix2 r k : S512x384.Idx) 0).trans ?_
    rw [(idx2 t).1]
    show t.val * 512 + r.val = 512 * t.val + r.val
    omega
  | ⟨1, _⟩ => exact win0_2.rect_emb_val_of_index_zero t 1 (idx2 t).2 (ix2 r k : S512x384.Idx)

/-- Window 2's block at point `t`, read from its argument. -/
theorem blk2_at (c : Dev nD) (t : Fin cfg0.N) (r : Fin 512) (k : Fin 384) :
    iblk m c 2 t (ix2 r k) = m ((c : Thread nD τ).loc main_arg2) (ix2 ⟨512 * t.val + r.val, by have : t.val < 128 := t.isLt; omega⟩ k) := by
  unfold iblk
  rw [View.read_apply]
  entry_read
  rw [emb2]
  rfl

/-- Grid point `t` reads block `t` of rows of window 3. -/
theorem idx3 : ∀ t : Fin cfg0.N, win0_3.index t 0 = t.val ∧ win0_3.index t 1 = 0 :=
  (by decide +kernel : ∀ t : Fin grid0.N, win0_3.index t 0 = t.val ∧ win0_3.index t 1 = 0)

/-- Row `r` of window 3's block at point `t` is row `512 t + r` of the array. -/
theorem emb3 (t : Fin cfg0.N) (r : Fin 512) (k : Fin 256) :
    ((cfg0.win 3).blk t).view.emb (ix2 r k : S512x256.Idx)
      = (ix2 ⟨512 * t.val + r.val, by have : t.val < 128 := t.isLt; omega⟩ k : S65536x256.Idx) := by
  funext a
  refine Fin.ext ?_
  match a with
  | ⟨0, _⟩ =>
    refine (win0_3.rect_emb_val t (ix2 r k : S512x256.Idx) 0).trans ?_
    rw [(idx3 t).1]
    show t.val * 512 + r.val = 512 * t.val + r.val
    omega
  | ⟨1, _⟩ => exact win0_3.rect_emb_val_of_index_zero t 1 (idx3 t).2 (ix2 r k : S512x256.Idx)

/-- Window 3's block at point `t`, read from its argument. -/
theorem blk3_at (c : Dev nD) (t : Fin cfg0.N) (r : Fin 512) (k : Fin 256) :
    iblk m c 3 t (ix2 r k) = m ((c : Thread nD τ).loc main_arg3) (ix2 ⟨512 * t.val + r.val, by have : t.val < 128 := t.isLt; omega⟩ k) := by
  unfold iblk
  rw [View.read_apply]
  entry_read
  rw [emb3]
  rfl

/-- Grid point `t` reads block `t` of rows and column block 0 in window 4. -/
theorem idx4 : ∀ t : Fin cfg0.N, win0_4.index t 0 = t.val ∧ win0_4.index t 1 = 0 :=
  (by decide +kernel : ∀ t : Fin grid0.N, win0_4.index t 0 = t.val ∧ win0_4.index t 1 = 0)

/-- Window 4's block at point `t`, read from its argument: columns `0` to `1023`. -/
theorem blk4_at (c : Dev nD) (t : Fin cfg0.N) (r : Fin 512) (k : Fin 1024) :
    X0_4 m c t (ix2 r k : S512x1024.Idx)
      = m ((c : Thread nD τ).loc main_arg4) (ix2 ⟨512 * t.val + r.val, by have : t.val < 128 := t.isLt; omega⟩ ⟨0 + k.val, by omega⟩ : S65536x6912.Idx) := by
  unfold X0_4 Pipeline.Window.fill
  rw [dif_pos (moved0_4 t _)]
  unfold iblk
  rw [View.read_apply]
  entry_read
  refine congrArg (m ((c : Thread nD τ).loc main_arg4)) ?_
  funext a
  refine Fin.ext ?_
  match a with
  | ⟨0, _⟩ =>
    refine (win0_4.rect_emb_val t _ 0).trans ?_
    rw [(idx4 t).1]
    show t.val * 512 + r.val = 512 * t.val + r.val
    omega
  | ⟨1, _⟩ =>
    refine (win0_4.rect_emb_val t _ 1).trans ?_
    rw [(idx4 t).2]
    show 0 * 1024 + k.val = 0 + k.val
    omega

/-- Grid point `t` reads block `t` of rows and column block 1 in window 5. -/
theorem idx5 : ∀ t : Fin cfg0.N, win0_5.index t 0 = t.val ∧ win0_5.index t 1 = 1 :=
  (by decide +kernel : ∀ t : Fin grid0.N, win0_5.index t 0 = t.val ∧ win0_5.index t 1 = 1)

/-- Window 5's block at point `t`, read from its argument: columns `1024` to `2047`. -/
theorem blk5_at (c : Dev nD) (t : Fin cfg0.N) (r : Fin 512) (k : Fin 1024) :
    X0_5 m c t (ix2 r k : S512x1024.Idx)
      = m ((c : Thread nD τ).loc main_arg4) (ix2 ⟨512 * t.val + r.val, by have : t.val < 128 := t.isLt; omega⟩ ⟨1024 + k.val, by omega⟩ : S65536x6912.Idx) := by
  unfold X0_5 Pipeline.Window.fill
  rw [dif_pos (moved0_5 t _)]
  unfold iblk
  rw [View.read_apply]
  entry_read
  refine congrArg (m ((c : Thread nD τ).loc main_arg4)) ?_
  funext a
  refine Fin.ext ?_
  match a with
  | ⟨0, _⟩ =>
    refine (win0_5.rect_emb_val t _ 0).trans ?_
    rw [(idx5 t).1]
    show t.val * 512 + r.val = 512 * t.val + r.val
    omega
  | ⟨1, _⟩ =>
    refine (win0_5.rect_emb_val t _ 1).trans ?_
    rw [(idx5 t).2]
    show 1 * 1024 + k.val = 1024 + k.val
    omega

/-- Grid point `t` reads block `t` of rows and column block 2 in window 6. -/
theorem idx6 : ∀ t : Fin cfg0.N, win0_6.index t 0 = t.val ∧ win0_6.index t 1 = 2 :=
  (by decide +kernel : ∀ t : Fin grid0.N, win0_6.index t 0 = t.val ∧ win0_6.index t 1 = 2)

/-- Window 6's block at point `t`, read from its argument: columns `2048` to `3071`. -/
theorem blk6_at (c : Dev nD) (t : Fin cfg0.N) (r : Fin 512) (k : Fin 1024) :
    X0_6 m c t (ix2 r k : S512x1024.Idx)
      = m ((c : Thread nD τ).loc main_arg4) (ix2 ⟨512 * t.val + r.val, by have : t.val < 128 := t.isLt; omega⟩ ⟨2048 + k.val, by omega⟩ : S65536x6912.Idx) := by
  unfold X0_6 Pipeline.Window.fill
  rw [dif_pos (moved0_6 t _)]
  unfold iblk
  rw [View.read_apply]
  entry_read
  refine congrArg (m ((c : Thread nD τ).loc main_arg4)) ?_
  funext a
  refine Fin.ext ?_
  match a with
  | ⟨0, _⟩ =>
    refine (win0_6.rect_emb_val t _ 0).trans ?_
    rw [(idx6 t).1]
    show t.val * 512 + r.val = 512 * t.val + r.val
    omega
  | ⟨1, _⟩ =>
    refine (win0_6.rect_emb_val t _ 1).trans ?_
    rw [(idx6 t).2]
    show 2 * 1024 + k.val = 2048 + k.val
    omega

/-- Window 7, staged whole, read from its argument. -/
theorem blk7_at (c : Dev nD) (t : Fin cfg0.N) (j : Fin 384) (k : Fin 1024) :
    iblk m c 7 t (ix2 j k) = m ((c : Thread nD τ).loc main_arg5) (ix2 j k) := by
  unfold iblk
  rw [View.read_apply]
  entry_read
  have e : ((cfg0.win 7).blk t).view.emb (ix2 j k : S384x1024.Idx) = (ix2 j k : S384x1024.Idx) := by
    funext a
    exact Fin.ext (win0_7.rect_emb_val_of_index_zero t a (by match a with | ⟨0, _⟩ => rfl | ⟨1, _⟩ => rfl) (ix2 j k : S384x1024.Idx))
  rw [e]
  rfl

/-- Window 8, staged whole, read from its argument. -/
theorem blk8_at (c : Dev nD) (t : Fin cfg0.N) (j : Fin 384) (k : Fin 1024) :
    iblk m c 8 t (ix2 j k) = m ((c : Thread nD τ).loc main_arg6) (ix2 j k) := by
  unfold iblk
  rw [View.read_apply]
  entry_read
  have e : ((cfg0.win 8).blk t).view.emb (ix2 j k : S384x1024.Idx) = (ix2 j k : S384x1024.Idx) := by
    funext a
    exact Fin.ext (win0_8.rect_emb_val_of_index_zero t a (by match a with | ⟨0, _⟩ => rfl | ⟨1, _⟩ => rfl) (ix2 j k : S384x1024.Idx))
  rw [e]
  rfl

/-- Window 9, staged whole, read from its argument. -/
theorem blk9_at (c : Dev nD) (t : Fin cfg0.N) (j : Fin 256) (k : Fin 1024) :
    iblk m c 9 t (ix2 j k) = m ((c : Thread nD τ).loc main_arg7) (ix2 j k) := by
  unfold iblk
  rw [View.read_apply]
  entry_read
  have e : ((cfg0.win 9).blk t).view.emb (ix2 j k : S256x1024.Idx) = (ix2 j k : S256x1024.Idx) := by
    funext a
    exact Fin.ext (win0_9.rect_emb_val_of_index_zero t a (by match a with | ⟨0, _⟩ => rfl | ⟨1, _⟩ => rfl) (ix2 j k : S256x1024.Idx))
  rw [e]
  rfl

/-- Window 10, staged whole, read from its argument. -/
theorem blk10_at (c : Dev nD) (t : Fin cfg0.N) (j : Fin 1024) (k : Fin 1024) :
    iblk m c 10 t (ix2 j k) = m ((c : Thread nD τ).loc main_arg8) (ix2 j k) := by
  unfold iblk
  rw [View.read_apply]
  entry_read
  have e : ((cfg0.win 10).blk t).view.emb (ix2 j k : S1024x1024.Idx) = (ix2 j k : S1024x1024.Idx) := by
    funext a
    exact Fin.ext (win0_10.rect_emb_val_of_index_zero t a (by match a with | ⟨0, _⟩ => rfl | ⟨1, _⟩ => rfl) (ix2 j k : S1024x1024.Idx))
  rw [e]
  rfl

/-- The gain of window 11, staged as one row, read from its argument. -/
theorem blk11_at (c : Dev nD) (t : Fin cfg0.N) (k : Fin 1024) :
    iblk m c 11 t (ix2 0 k) = m ((c : Thread nD τ).loc main_arg9) (ix1 k) := by
  unfold iblk
  rw [View.read_apply]
  entry_read
  have e : ((cfg0.win 11).blk t).view.emb (ix2 0 k : S1x1024.Idx) = (ix2 0 k : S1x1024.Idx) := by
    funext a
    exact Fin.ext (win0_11.rect_emb_val_of_index_zero t a (by match a with | ⟨0, _⟩ => rfl | ⟨1, _⟩ => rfl) (ix2 0 k : S1x1024.Idx))
  rw [e]
  show shapeCast S1x1024 _ _ (ix2 0 k) = _
  pointwise

/-- Grid point `t` writes block `t` of rows of window 12. -/
theorem idx12 : ∀ t : Fin cfg0.N, win0_12.index t 0 = t.val ∧ win0_12.index t 1 = 0 :=
  (by decide +kernel : ∀ t : Fin grid0.N, win0_12.index t 0 = t.val ∧ win0_12.index t 1 = 0)

/-- Row `r` of window 12's block at point `t` is row `512 t + r` of the array. -/
theorem emb12 (t : Fin cfg0.N) (r : Fin 512) (k : Fin 1024) :
    ((cfg0.win 12).blk t).view.emb (ix2 r k : S512x1024.Idx)
      = (ix2 ⟨512 * t.val + r.val, by have : t.val < 128 := t.isLt; omega⟩ k : S65536x1024.Idx) := by
  funext a
  refine Fin.ext ?_
  match a with
  | ⟨0, _⟩ =>
    refine (win0_12.rect_emb_val t (ix2 r k : S512x1024.Idx) 0).trans ?_
    rw [(idx12 t).1]
    show t.val * 512 + r.val = 512 * t.val + r.val
    omega
  | ⟨1, _⟩ => exact win0_12.rect_emb_val_of_index_zero t 1 (idx12 t).2 (ix2 r k : S512x1024.Idx)

/-- The final array: each row is the merging step of the same rows of the arguments. -/
theorem arr_at (c : Dev nD) (r : Fin 65536) (k : Fin 1024) :
    (dats m 0 c).arrAt 12 cfg0.N (ix2 r k : S65536x1024.Idx)
      = merge (fun k => m ((c : Thread nD τ).loc main_arg0) (ix2 r k))
          (streams (fun k => m ((c : Thread nD τ).loc main_arg1) (ix2 r k)) (fun k => m ((c : Thread nD τ).loc main_arg2) (ix2 r k)) (fun k => m ((c : Thread nD τ).loc main_arg3) (ix2 r k))
            (fun k => m ((c : Thread nD τ).loc main_arg4) (ix2 r ⟨0 + k.val, by omega⟩)) (fun k => m ((c : Thread nD τ).loc main_arg4) (ix2 r ⟨1024 + k.val, by omega⟩))
            (fun k => m ((c : Thread nD τ).loc main_arg4) (ix2 r ⟨2048 + k.val, by omega⟩)) (fun j k => m ((c : Thread nD τ).loc main_arg5) (ix2 j k))
            (fun j k => m ((c : Thread nD τ).loc main_arg6) (ix2 j k)) (fun j k => m ((c : Thread nD τ).loc main_arg7) (ix2 j k)))
          (fun j k => m ((c : Thread nD τ).loc main_arg8) (ix2 j k)) (fun k => m ((c : Thread nD τ).loc main_arg9) (ix1 k)) k := by
  have hlt : r.val / 512 < 128 := by omega
  obtain ⟨t, ht⟩ : ∃ t : Fin cfg0.N, t.val = r.val / 512 := ⟨⟨r.val / 512, hlt⟩, rfl⟩
  have hr : (⟨512 * t.val + r.val % 512, by rw [ht]; omega⟩ : Fin 65536) = r := Fin.ext (by simp only [ht]; omega)
  have e : ((cfg0.win 12).blk t).view.emb (ix2 ⟨r.val % 512, by omega⟩ k : S512x1024.Idx) = (ix2 r k : S65536x1024.Idx) := by
    rw [emb12]; exact congrArg (fun r => (ix2 r k : S65536x1024.Idx)) hr
  have b0 : ∀ k, iblk m c 0 t (ix2 ⟨r.val % 512, by omega⟩ k : S512x1024.Idx) = m ((c : Thread nD τ).loc main_arg0) (ix2 r k : S65536x1024.Idx) :=
    fun k => (blk0_at m c t _ k).trans (congrArg (fun r => m ((c : Thread nD τ).loc main_arg0) (ix2 r k : S65536x1024.Idx)) hr)
  have b1 : ∀ k, iblk m c 1 t (ix2 ⟨r.val % 512, by omega⟩ k : S512x384.Idx) = m ((c : Thread nD τ).loc main_arg1) (ix2 r k : S65536x384.Idx) :=
    fun k => (blk1_at m c t _ k).trans (congrArg (fun r => m ((c : Thread nD τ).loc main_arg1) (ix2 r k : S65536x384.Idx)) hr)
  have b2 : ∀ k, iblk m c 2 t (ix2 ⟨r.val % 512, by omega⟩ k : S512x384.Idx) = m ((c : Thread nD τ).loc main_arg2) (ix2 r k : S65536x384.Idx) :=
    fun k => (blk2_at m c t _ k).trans (congrArg (fun r => m ((c : Thread nD τ).loc main_arg2) (ix2 r k : S65536x384.Idx)) hr)
  have b3 : ∀ k, iblk m c 3 t (ix2 ⟨r.val % 512, by omega⟩ k : S512x256.Idx) = m ((c : Thread nD τ).loc main_arg3) (ix2 r k : S65536x256.Idx) :=
    fun k => (blk3_at m c t _ k).trans (congrArg (fun r => m ((c : Thread nD τ).loc main_arg3) (ix2 r k : S65536x256.Idx)) hr)
  have b4 : ∀ k : Fin 1024, X0_4 m c t (ix2 ⟨r.val % 512, by omega⟩ k : S512x1024.Idx)
      = m ((c : Thread nD τ).loc main_arg4) (ix2 r ⟨0 + k.val, by omega⟩ : S65536x6912.Idx) :=
    fun k => (blk4_at m c t _ k).trans (congrArg (fun r => m ((c : Thread nD τ).loc main_arg4) (ix2 r ⟨0 + k.val, by omega⟩ : S65536x6912.Idx)) hr)
  have b5 : ∀ k : Fin 1024, X0_5 m c t (ix2 ⟨r.val % 512, by omega⟩ k : S512x1024.Idx)
      = m ((c : Thread nD τ).loc main_arg4) (ix2 r ⟨1024 + k.val, by omega⟩ : S65536x6912.Idx) :=
    fun k => (blk5_at m c t _ k).trans (congrArg (fun r => m ((c : Thread nD τ).loc main_arg4) (ix2 r ⟨1024 + k.val, by omega⟩ : S65536x6912.Idx)) hr)
  have b6 : ∀ k : Fin 1024, X0_6 m c t (ix2 ⟨r.val % 512, by omega⟩ k : S512x1024.Idx)
      = m ((c : Thread nD τ).loc main_arg4) (ix2 r ⟨2048 + k.val, by omega⟩ : S65536x6912.Idx) :=
    fun k => (blk6_at m c t _ k).trans (congrArg (fun r => m ((c : Thread nD τ).loc main_arg4) (ix2 r ⟨2048 + k.val, by omega⟩ : S65536x6912.Idx)) hr)
  rw [← e, arr_blk, pay1_at]
  simp only [b0, b1, b2, b3, b4, b5, b6, blk7_at, blk8_at, blk9_at, blk10_at, blk11_at]
end Cert.MergeV
-- ==== Proof.MergeRef.lean ====
/-
  What the merging reference computes, row by row.
-/
module
public import proofs.«01_k».proof.Proof.MergeBlock
public import proofs.«01_k».proof.Proof.Gen.MergeRefIdeal.Read
public import Idealize.ShloMosaic.Lib.Pointwise
@[expose] public section
set_option maxRecDepth 16384
noncomputable section
namespace Cert.MergeR
open Cert.MergeRefIdeal Cert.MergeRefIdeal.Gen Cert.MergeRefIdeal.Read Idealize.ShloMosaic Idealize.ShloMosaic.TcCoe Cert.Rows

variable (x0 : Vec Ideal S65536x1024 .f32) (x1 x2 : Vec Ideal S65536x384 .f32) (x3 : Vec Ideal S65536x256 .f32) (x4 : Vec Ideal S65536x6912 .f32)
  (x5 x6 : Vec Ideal S384x1024 .f32) (x7 : Vec Ideal S256x1024 .f32) (x8 : Vec Ideal S1024x1024 .f32) (x9 : Vec Ideal S1024 .f32)

/-- The reference's gates, read at an element. -/
theorem gate_at (r : Fin 65536) (k : Fin 3072) :
    val_main_v6 (F := Ideal) x4 (ix2 r k) = gate (x4 (ix2 r ⟨k.val, by omega⟩)) := by
  pointwise [val_main_v6, val_main_v5, val_main_v4, val_main_v3, val_main_v2, val_main_v1, val_main_v0, val_main_cst, val_main_cst_0]
  rfl

/-- The reference's merged streams, read at an element. -/
theorem streams_at (r : Fin 65536) (k : Fin 1024) :
    val_main_v17 (F := Ideal) x1 x2 x3 x4 x5 x6 x7 (ix2 r k)
      = streams (fun k => x1 (ix2 r k)) (fun k => x2 (ix2 r k)) (fun k => x3 (ix2 r k))
            (fun k => x4 (ix2 r ⟨0 + k.val, by omega⟩)) (fun k => x4 (ix2 r ⟨1024 + k.val, by omega⟩))
            (fun k => x4 (ix2 r ⟨2048 + k.val, by omega⟩)) (fun j k => x5 (ix2 j k))
            (fun j k => x6 (ix2 j k)) (fun j k => x7 (ix2 j k)) k := by
  pointwise [val_main_v17, val_main_v16, val_main_v15, val_main_v14, val_main_v13, val_main_v12, val_main_v11, val_main_v10, val_main_v9, val_main_v8, val_main_v7]
  simp only [gate_at]
  simp only [streams, Nat.zero_add]

/-- The reference's product with the output matrix, read at an element. -/
theorem mixed_at (r : Fin 65536) (k : Fin 1024) :
    val_main_v18 (F := Ideal) x1 x2 x3 x4 x5 x6 x7 x8 (ix2 r k)
      = ∑ j, val_main_v17 (F := Ideal) x1 x2 x3 x4 x5 x6 x7 (ix2 r j) * x8 (ix2 j k) := by
  pointwise [val_main_v18]

/-- The reference's reciprocal root mean square of a row, read at an element. -/
theorem inv_at (r : Fin 65536) (k : Fin 1024) :
    val_main_v27 (F := Ideal) x1 x2 x3 x4 x5 x6 x7 x8 (ix2 r k)
      = invRms (fun k => val_main_v18 (F := Ideal) x1 x2 x3 x4 x5 x6 x7 x8 (ix2 r k)) := by
  unfold val_main_v27 val_main_v26 val_main_v25 val_main_v24 val_main_v23 val_main_v22 val_main_v21 val_main_v20 val_main_v19
  generalize val_main_v18 (F := Ideal) x1 x2 x3 x4 x5 x6 x7 x8 = y
  pointwise [val_main_v22, val_main_v24, val_main_cst_1, val_main_cst_2, val_main_cst_3]
  rfl

/-- The reference's result: each row is the merging step of the same rows of the arguments. -/
theorem ref_at (r : Fin 65536) (k : Fin 1024) :
    val_main_v32 (F := Ideal) x0 x1 x2 x3 x4 x5 x6 x7 x8 x9 (ix2 r k)
      = merge (fun k => x0 (ix2 r k))
          (streams (fun k => x1 (ix2 r k)) (fun k => x2 (ix2 r k)) (fun k => x3 (ix2 r k))
            (fun k => x4 (ix2 r ⟨0 + k.val, by omega⟩)) (fun k => x4 (ix2 r ⟨1024 + k.val, by omega⟩))
            (fun k => x4 (ix2 r ⟨2048 + k.val, by omega⟩)) (fun j k => x5 (ix2 j k))
            (fun j k => x6 (ix2 j k)) (fun j k => x7 (ix2 j k)))
          (fun j k => x8 (ix2 j k)) (fun k => x9 (ix1 k)) k := by
  have h := inv_at x1 x2 x3 x4 x5 x6 x7 x8 r
  have h' := mixed_at x1 x2 x3 x4 x5 x6 x7 x8 r
  unfold val_main_v32 val_main_v31 val_main_v30 val_main_v29 val_main_v28
  generalize val_main_v27 (F := Ideal) x1 x2 x3 x4 x5 x6 x7 x8 = z at h ⊢
  generalize val_main_v18 (F := Ideal) x1 x2 x3 x4 x5 x6 x7 x8 = y at h h' ⊢
  pointwise
  simp only [h, h', streams_at, merge, rms, Nat.zero_add]
end Cert.MergeR
-- ==== Proof.MergeEq.lean ====
/-
  The merging kernel and its reference end with equal results.
-/
module
public import proofs.«01_k».proof.Defs
public import proofs.«01_k».proof.Proof.MergeArray
public import proofs.«01_k».proof.Proof.MergeRef
public import proofs.«01_k».proof.Proof.Gen.MergeRefIdeal
public import Idealize.ShloMosaic.Lib.Claim
public import Idealize.ShloMosaic.Lib.Quiescent
@[expose] public section
set_option maxRecDepth 16384
noncomputable section
namespace Cert.MergeE
open Idealize.ShloMosaic Idealize.ShloMosaic.TcCoe

/-- The reference ends with its arguments unchanged and every counter at zero. -/
theorem quiescent_ref : Cert.quiescent_MergeRefIdeal := by
  intro m g _
  refine θ_run_mono (Cert.MergeRefIdeal.Value.run m g) fun r h => ⟨fun c => (h c).2, ?_⟩
  exact sem_eq_zero_of_no_sems (by decide) r.2

/-- The two result arrays agree when the arguments do. -/
theorem result_eq (m : (ℓ : Loc Cert.MergeIdeal.nD Cert.MergeIdeal.τ Cert.MergeIdeal.sig) → Buf (Elt Ideal) ℓ)
    (c : Dev Cert.MergeIdeal.nD) :
    Cert.MergeRefIdeal.Read.val_main_v32 (F := Ideal)
        (m ((c.tc : Thread Cert.MergeIdeal.nD Cert.MergeIdeal.τ).loc Cert.MergeIdeal.main_arg0))
        (m ((c.tc : Thread Cert.MergeIdeal.nD Cert.MergeIdeal.τ).loc Cert.MergeIdeal.main_arg1))
        (m ((c.tc : Thread Cert.MergeIdeal.nD Cert.MergeIdeal.τ).loc Cert.MergeIdeal.main_arg2))
        (m ((c.tc : Thread Cert.MergeIdeal.nD Cert.MergeIdeal.τ).loc Cert.MergeIdeal.main_arg3))
        (m ((c.tc : Thread Cert.MergeIdeal.nD Cert.MergeIdeal.τ).loc Cert.MergeIdeal.main_arg4))
        (m ((c.tc : Thread Cert.MergeIdeal.nD Cert.MergeIdeal.τ).loc Cert.MergeIdeal.main_arg5))
        (m ((c.tc : Thread Cert.MergeIdeal.nD Cert.MergeIdeal.τ).loc Cert.MergeIdeal.main_arg6))
        (m ((c.tc : Thread Cert.MergeIdeal.nD Cert.MergeIdeal.τ).loc Cert.MergeIdeal.main_arg7))
        (m ((c.tc : Thread Cert.MergeIdeal.nD Cert.MergeIdeal.τ).loc Cert.MergeIdeal.main_arg8))
        (m ((c.tc : Thread Cert.MergeIdeal.nD Cert.MergeIdeal.τ).loc Cert.MergeIdeal.main_arg9))
      = (Cert.MergeIdeal.Gen.dats m 0 c).arrAt 12 Cert.MergeIdeal.cfg0.N := by
  funext i
  obtain ⟨r, k, rfl⟩ : ∃ (r : Fin 65536) (k : Fin 1024), i = ix2 r k := ⟨i 0, i 1, ValueIdx.eq_ix2 i⟩
  exact (Cert.MergeR.ref_at _ _ _ _ _ _ _ _ _ _ r k).trans (Cert.MergeV.arr_at m c r k).symm

/-- Kernel and reference, from equal arguments, end with equal results and the arguments unchanged. -/
theorem algebraic : Cert.algebraic_MergeIdeal_MergeRefIdeal := by
  intro m g m' g' _ hag
  refine ⟨fun c => (Cert.MergeIdeal.Gen.dats m 0 c).arrAt 12 Cert.MergeIdeal.cfg0.N, Cert.MergeIdeal.Value.run_blocks m g, ?_⟩
  refine θ_run_mono (Cert.MergeRefIdeal.Value.run m' g') fun r h c => ⟨?_, (h c).2⟩
  obtain ⟨h0, h1, h2, h3, h4, h5, h6, h7, h8, h9⟩ := hag c
  rw [(h c).1, Cert.MergeRefIdeal.Read.val_main_v32_eq, h0, h1, h2, h3, h4, h5, h6, h7, h8, h9]
  exact result_eq m c

end Cert.MergeE
-- ==== Proof.FfnBlock.lean ====
/-
  One grid point of the feed-forward kernel, read at an element of its output block.
-/
module
public import proofs.«01_k».proof.Proof.Norm
public import proofs.«01_k».proof.Proof.Gen.FfnIdeal.Value
public import Idealize.ShloMosaic.Lib.Pointwise
@[expose] public section
set_option maxRecDepth 16384
noncomputable section
namespace Cert.FfnV
open Cert.FfnIdeal Cert.FfnIdeal.Gen Idealize.ShloMosaic Idealize.ShloMosaic.TcCoe Cert.Rows

/-- The normalized block of rows, read at an element. -/
theorem pay1_at (x : Vec Ideal S512x1024 .f32) (g : Vec Ideal S1x1024 .f32) (r : Fin 512) (c : Fin 1024) :
    k0_pay1 (F := Ideal) x g (ix2 r c) = rms (fun k => x (ix2 r k)) (fun k => g (ix2 0 k)) c := by
  pointwise [k0_pay1]
  rfl

/-- The second chunk of the hidden layer, read at an element. -/
theorem pay3_at (x : Vec Ideal S512x1024 .f32) (g : Vec Ideal S1x1024 .f32) (u : Vec Ideal S1024x1024 .bf16)
    (r : Fin 512) (c : Fin 1024) :
    k0_pay3 (F := Ideal) x g u (ix2 r c)
      = act (rms (fun k => x (ix2 r k)) (fun k => g (ix2 0 k))) (fun j k => u (ix2 j k)) c := by
  pointwise [k0_pay3]
  simp only [pay1_at]
  rfl

/-- The first chunk's contribution to the output row, read at an element. -/
theorem pay2_at (x : Vec Ideal S512x1024 .f32) (g : Vec Ideal S1x1024 .f32) (u d : Vec Ideal S1024x1024 .bf16)
    (r : Fin 512) (c : Fin 1024) :
    k0_pay2 (F := Ideal) x g u d (ix2 r c)
      = ∑ k, act (rms (fun k => x (ix2 r k)) (fun k => g (ix2 0 k))) (fun j k => u (ix2 j k)) k * d (ix2 k c) := by
  pointwise [k0_pay2]
  simp only [pay1_at]
  rfl

/-- A chunk of the second matrix is stored as loaded. -/
theorem pay4_at (d : Vec Ideal S1024x1024 .bf16) (r c : Fin 1024) :
    k0_pay4 (F := Ideal) d (ix2 r c) = d (ix2 r c) := by
  pointwise [k0_pay4]

/-- The four partial products of one row. -/
def mix (h a : Fin 1024 → EReal) (p : Fin 1024 → EReal) (d1 u2 d2 u3 d3 : Fin 1024 → Fin 1024 → EReal) (c : Fin 1024) : EReal :=
  p c + ∑ k, a k * d1 k c + ∑ k, act h u2 k * d2 k c + ∑ k, act h u3 k * d3 k c

/-- The last stored value: the four contributions added, normalized, added to the block of rows. -/
theorem pay5_at (x : Vec Ideal S512x1024 .f32) (h : FVec Ideal S512x1024 .bf16) (p : FVec Ideal S512x1024 .f32) (a : FVec Ideal S512x1024 .bf16) (d1 : FVec Ideal S1024x1024 .bf16) (u2 d2 u3 d3 : Vec Ideal S1024x1024 .bf16) (g : Vec Ideal S1x1024 .f32) (r : Fin 512) (c : Fin 1024) :
    k0_pay5 (F := Ideal) x h p a d1 (constant S512x1024 .f32 0x00000000#32) u2 d2 u3 d3 g (ix2 r c)
     = x (ix2 r c) + rms (mix (fun k => h (ix2 r k)) (fun k => a (ix2 r k)) (fun k => p (ix2 r k)) (fun j k => d1 (ix2 j k))
          (fun j k => u2 (ix2 j k)) (fun j k => d2 (ix2 j k)) (fun j k => u3 (ix2 j k)) (fun j k => d3 (ix2 j k)))
          (fun k => g (ix2 0 k)) c := by
  pointwise [k0_pay5]
  rfl

/-- What one grid point computes: each row of its block is the feed-forward layer of that row. -/
theorem out_at (x0 : Vec Ideal S512x1024 .f32) (x1 : Vec Ideal S1x1024 .f32) (x2 : Vec Ideal S1024x4096 .bf16)
    (x3 : Vec Ideal S4096x1024 .bf16) (x4 : Vec Ideal S1x1024 .f32) (r : Fin 512) (c : Fin 1024) :
    out0_5 (F := Ideal) x0 x1 x2 x3 x4 (ix2 r c)
      = ffn (fun k => x0 (ix2 r k)) (fun k => x1 (ix2 0 k)) (fun j k => x2 (ix2 j k)) (fun j k => x3 (ix2 j k))
          (fun k => x4 (ix2 0 k)) c := by
  unfold out0_5
  rw [View.canon_unit_zero (by decide), View.ld_unit_zero (by decide), View.ld_unit_zero (by decide), View.ld_unit_zero (by decide)]
  rw [pay5_at]
  unfold ffn
  refine congrArg (fun m => x0 (ix2 r c) + rms m _ c) (funext fun c => ?_)
  simp only [mix, pay1_at, pay2_at, pay3_at, pay4_at]
  symm
  apply sum_four <;> intro k <;> pointwise <;> rfl

end Cert.FfnV
-- ==== Proof.FfnArray.lean ====
/-
  What the feed-forward kernel's output array holds after the run.
-/
module
public import proofs.«01_k».proof.Proof.FfnBlock
public import Idealize.ShloMosaic.Lib.Claim
@[expose] public section
set_option maxRecDepth 16384
noncomputable section
namespace Cert.FfnV
open Cert.FfnIdeal Cert.FfnIdeal.Gen Idealize.ShloMosaic Idealize.ShloMosaic.TcCoe Cert.Rows

variable (m : (ℓ : Loc nD τ sig) → Buf (Elt Ideal) ℓ)

/-- Grid point `t` reads block `t` of rows. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Grid point `t` writes block `t` of rows. -/
theorem idx5 : ∀ t : Fin cfg0.N, win0_5.index t 0 = t.val ∧ win0_5.index t 1 = 0 :=
  (by decide +kernel : ∀ t : Fin grid0.N, win0_5.index t 0 = t.val ∧ win0_5.index t 1 = 0)

/-- Row `r` of the input block at point `t` is row `512 t + r` of the array. -/
theorem emb0 (t : Fin cfg0.N) (r : Fin 512) (k : Fin 1024) :
    ((cfg0.win 0).blk t).view.emb (ix2 r k : S512x1024.Idx)
      = (ix2 ⟨512 * t.val + r.val, by have : t.val < 128 := t.isLt; omega⟩ k : S65536x1024.Idx) := by
  funext a
  refine Fin.ext ?_
  match a with
  | ⟨0, _⟩ =>
    refine (win0_0.rect_emb_val t (ix2 r k : S512x1024.Idx) 0).trans ?_
    rw [(idx0 t).1]
    show t.val * 512 + r.val = 512 * t.val + r.val
    omega
  | ⟨1, _⟩ => exact win0_0.rect_emb_val_of_index_zero t 1 (idx0 t).2 (ix2 r k : S512x1024.Idx)

/-- The input block at point `t`, read from the first argument. -/
theorem blk0_at (c : Dev nD) (t : Fin cfg0.N) (r : Fin 512) (k : Fin 1024) :
    iblk m c 0 t (ix2 r k) = m ((c : Thread nD τ).loc main_arg0) (ix2 ⟨512 * t.val + r.val, by have : t.val < 128 := t.isLt; omega⟩ k) := by
  unfold iblk
  rw [View.read_apply]
  entry_read
  rw [emb0]
  rfl
/-- The first gain, staged as one row, read from the second argument. -/
theorem blk1_at (c : Dev nD) (t : Fin cfg0.N) (k : Fin 1024) :
    iblk m c 1 t (ix2 0 k) = m ((c : Thread nD τ).loc main_arg1) (ix1 k) := by
  unfold iblk
  rw [View.read_apply]
  entry_read
  have e : ((cfg0.win 1).blk t).view.emb (ix2 0 k : S1x1024.Idx) = (ix2 0 k : S1x1024.Idx) := by
    funext a
    exact Fin.ext (win0_1.rect_emb_val_of_index_zero t a (by match a with | ⟨0, _⟩ => rfl | ⟨1, _⟩ => rfl) (ix2 0 k : S1x1024.Idx))
  rw [e]
  show shapeCast S1x1024 _ _ (ix2 0 k) = _
  pointwise
/-- The first matrix, staged whole, read from the third argument. -/
theorem blk2_at (c : Dev nD) (t : Fin cfg0.N) (j : Fin 1024) (k : Fin 4096) :
    iblk m c 2 t (ix2 j k) = m ((c : Thread nD τ).loc main_arg2) (ix2 j k) := by
  unfold iblk
  rw [View.read_apply]
  entry_read
  have e : ((cfg0.win 2).blk t).view.emb (ix2 j k : S1024x4096.Idx) = (ix2 j k : S1024x4096.Idx) := by
    funext a
    exact Fin.ext (win0_2.rect_emb_val_of_index_zero t a (by match a with | ⟨0, _⟩ => rfl | ⟨1, _⟩ => rfl) (ix2 j k : S1024x4096.Idx))
  rw [e]
  rfl

/-- The second matrix, staged whole, read from the fourth argument. -/
theorem blk3_at (c : Dev nD) (t : Fin cfg0.N) (j : Fin 4096) (k : Fin 1024) :
    iblk m c 3 t (ix2 j k) = m ((c : Thread nD τ).loc main_arg3) (ix2 j k) := by
  unfold iblk
  rw [View.read_apply]
  entry_read
  have e : ((cfg0.win 3).blk t).view.emb (ix2 j k : S4096x1024.Idx) = (ix2 j k : S4096x1024.Idx) := by
    funext a
    exact Fin.ext (win0_3.rect_emb_val_of_index_zero t a (by match a with | ⟨0, _⟩ => rfl | ⟨1, _⟩ => rfl) (ix2 j k : S4096x1024.Idx))
  rw [e]
  rfl

/-- The last gain, staged as one row, read from the fifth argument. -/
theorem blk4_at (c : Dev nD) (t : Fin cfg0.N) (k : Fin 1024) :
    iblk m c 4 t (ix2 0 k) = m ((c : Thread nD τ).loc main_arg4) (ix1 k) := by
  unfold iblk
  rw [View.read_apply]
  entry_read
  have e : ((cfg0.win 4).blk t).view.emb (ix2 0 k : S1x1024.Idx) = (ix2 0 k : S1x1024.Idx) := by
    funext a
    exact Fin.ext (win0_4.rect_emb_val_of_index_zero t a (by match a with | ⟨0, _⟩ => rfl | ⟨1, _⟩ => rfl) (ix2 0 k : S1x1024.Idx))
  rw [e]
  show shapeCast S1x1024 _ _ (ix2 0 k) = _
  pointwise

/-- Row `r` of the output block at point `t` is row `512 t + r` of the array. -/
theorem emb5 (t : Fin cfg0.N) (r : Fin 512) (k : Fin 1024) :
    ((cfg0.win 5).blk t).view.emb (ix2 r k : S512x1024.Idx)
      = (ix2 ⟨512 * t.val + r.val, by have : t.val < 128 := t.isLt; omega⟩ k : S65536x1024.Idx) := by
  funext a
  refine Fin.ext ?_
  match a with
  | ⟨0, _⟩ =>
    refine (win0_5.rect_emb_val t (ix2 r k : S512x1024.Idx) 0).trans ?_
    rw [(idx5 t).1]
    show t.val * 512 + r.val = 512 * t.val + r.val
    omega
  | ⟨1, _⟩ => exact win0_5.rect_emb_val_of_index_zero t 1 (idx5 t).2 (ix2 r k : S512x1024.Idx)

/-- An element of the final array under block `t` is what point `t` computed there. -/
theorem arr_blk (c : Dev nD) (t : Fin cfg0.N) (y : S512x1024.Idx) :
    (dats m 0 c).arrAt 5 cfg0.N (((cfg0.win 5).blk t).view.emb y)
      = out0_5 (F := Ideal) (iblk m c 0 t) (iblk m c 1 t) (iblk m c 2 t) (iblk m c 3 t) (iblk m c 4 t) y := by
  have h := congrFun ((Value.blocks5 m c t (flush0_5 t)).trans (Value.flushed5 m c t)) y
  rw [View.read_apply] at h
  exact h

/-- The final array: each row is the feed-forward layer of the same row of the first argument. -/
theorem arr_at (c : Dev nD) (r : Fin 65536) (k : Fin 1024) :
    (dats m 0 c).arrAt 5 cfg0.N (ix2 r k : S65536x1024.Idx)
      = ffn (fun k => m ((c : Thread nD τ).loc main_arg0) (ix2 r k)) (fun k => m ((c : Thread nD τ).loc main_arg1) (ix1 k))
          (fun j k => m ((c : Thread nD τ).loc main_arg2) (ix2 j k)) (fun j k => m ((c : Thread nD τ).loc main_arg3) (ix2 j k))
          (fun k => m ((c : Thread nD τ).loc main_arg4) (ix1 k)) k := by
  have hlt : r.val / 512 < 128 := by omega
  obtain ⟨t, ht⟩ : ∃ t : Fin cfg0.N, t.val = r.val / 512 := ⟨⟨r.val / 512, hlt⟩, rfl⟩
  have hr : (⟨512 * t.val + r.val % 512, by rw [ht]; omega⟩ : Fin 65536) = r := Fin.ext (by simp only [ht]; omega)
  have e : ((cfg0.win 5).blk t).view.emb (ix2 ⟨r.val % 512, by omega⟩ k : S512x1024.Idx) = (ix2 r k : S65536x1024.Idx) := by
    rw [emb5]; exact congrArg (fun r => (ix2 r k : S65536x1024.Idx)) hr
  have b0 : ∀ k, iblk m c 0 t (ix2 ⟨r.val % 512, by omega⟩ k : S512x1024.Idx) = m ((c : Thread nD τ).loc main_arg0) (ix2 r k : S65536x1024.Idx) :=
    fun k => (blk0_at m c t _ k).trans (congrArg (fun r => m ((c : Thread nD τ).loc main_arg0) (ix2 r k : S65536x1024.Idx)) hr)
  rw [← e, arr_blk, out_at]
  simp only [b0, blk1_at, blk2_at, blk3_at, blk4_at]
end Cert.FfnV
-- ==== Proof.FfnRef.lean ====
/-
  What the feed-forward reference computes, row by row.
-/
module
public import proofs.«01_k».proof.Proof.Norm
public import proofs.«01_k».proof.Proof.Gen.FfnRefIdeal.Read
public import Idealize.ShloMosaic.Lib.Pointwise
@[expose] public section
set_option maxRecDepth 16384
noncomputable section
namespace Cert.FfnR
open Cert.FfnRefIdeal Cert.FfnRefIdeal.Gen Cert.FfnRefIdeal.Read Idealize.ShloMosaic Idealize.ShloMosaic.TcCoe Cert.Rows

/-- The reference's normalized rows, read at an element. -/
theorem norm_at (x : Vec Ideal S65536x1024 .f32) (g : Vec Ideal S1024 .f32) (r : Fin 65536) (c : Fin 1024) :
    val_main_v12 (F := Ideal) x g (ix2 r c) = rms (fun k => x (ix2 r k)) (fun k => g (ix1 k)) c := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The reference's hidden layer, read at an element. -/
theorem hidden_at (x : Vec Ideal S65536x1024 .f32) (g : Vec Ideal S1024 .f32) (u : Vec Ideal S1024x4096 .f32)
    (r : Fin 65536) (k : Fin 4096) :
    val_main_v15 (F := Ideal) x g u (ix2 r k)
      = act (rms (fun k => x (ix2 r k)) (fun k => g (ix1 k))) (fun j k => u (ix2 j k)) k := by
  pointwise [val_main_v15, val_main_v14, val_main_v13, val_main_call0_v0, val_main_call0_cst]
  simp only [norm_at]
  rfl

/-- The reference's second product, read at an element. -/
theorem mixed_at (x : Vec Ideal S65536x1024 .f32) (g : Vec Ideal S1024 .f32) (u : Vec Ideal S1024x4096 .f32)
    (d : Vec Ideal S4096x1024 .f32) (r : Fin 65536) (c : Fin 1024) :
    val_main_v16 (F := Ideal) x g u d (ix2 r c)
      = ∑ k, act (rms (fun k => x (ix2 r k)) (fun k => g (ix1 k))) (fun j k => u (ix2 j k)) k * d (ix2 k c) := by
  pointwise [val_main_v16]
  simp only [hidden_at]

/-- The reference's result: each row is the feed-forward layer of the same row of the first argument. -/
theorem ref_at (x : Vec Ideal S65536x1024 .f32) (g : Vec Ideal S1024 .f32) (u : Vec Ideal S1024x4096 .f32)
    (d : Vec Ideal S4096x1024 .f32) (g' : Vec Ideal S1024 .f32) (r : Fin 65536) (c : Fin 1024) :
    val_main_v30 (F := Ideal) x g u d g' (ix2 r c)
      = ffn (fun k => x (ix2 r k)) (fun k => g (ix1 k)) (fun j k => u (ix2 j k)) (fun j k => d (ix2 j k))
          (fun k => g' (ix1 k)) c := by
  pointwise [val_main_v30, val_main_v29, val_main_v28, val_main_v27, val_main_v26, val_main_v25, val_main_v24, val_main_v23,
    val_main_v22, val_main_v21, val_main_v20, val_main_v19, val_main_v18, val_main_v17, val_main_cst_2, val_main_cst_3, val_main_cst_4]
  simp only [mixed_at]
  rfl
end Cert.FfnR
-- ==== Proof.FfnEq.lean ====
/-
  The feed-forward kernel and its reference end with equal results.
-/
module
public import proofs.«01_k».proof.Defs
public import proofs.«01_k».proof.Proof.FfnArray
public import proofs.«01_k».proof.Proof.FfnRef
public import proofs.«01_k».proof.Proof.Gen.FfnRefIdeal
public import Idealize.ShloMosaic.Lib.Claim
public import Idealize.ShloMosaic.Lib.Quiescent
@[expose] public section
set_option maxRecDepth 16384
noncomputable section
namespace Cert.FfnE
open Idealize.ShloMosaic Idealize.ShloMosaic.TcCoe

/-- The reference ends with its arguments unchanged and every counter at zero. -/
theorem quiescent_ref : Cert.quiescent_FfnRefIdeal := by
  intro m g _
  refine θ_run_mono (Cert.FfnRefIdeal.Value.run m g) fun r h => ⟨fun c => (h c).2, ?_⟩
  exact sem_eq_zero_of_no_sems (by decide) r.2

/-- The two result arrays agree when the arguments do. -/
theorem result_eq (m : (ℓ : Loc Cert.FfnIdeal.nD Cert.FfnIdeal.τ Cert.FfnIdeal.sig) → Buf (Elt Ideal) ℓ)
    (c : Dev Cert.FfnIdeal.nD) :
    Cert.FfnRefIdeal.Read.val_main_v30 (F := Ideal) (m ((c.tc : Thread Cert.FfnIdeal.nD Cert.FfnIdeal.τ).loc Cert.FfnIdeal.main_arg0))
        (m ((c.tc : Thread Cert.FfnIdeal.nD Cert.FfnIdeal.τ).loc Cert.FfnIdeal.main_arg1))
        (m ((c.tc : Thread Cert.FfnIdeal.nD Cert.FfnIdeal.τ).loc Cert.FfnIdeal.main_arg2))
        (m ((c.tc : Thread Cert.FfnIdeal.nD Cert.FfnIdeal.τ).loc Cert.FfnIdeal.main_arg3))
        (m ((c.tc : Thread Cert.FfnIdeal.nD Cert.FfnIdeal.τ).loc Cert.FfnIdeal.main_arg4))
      = (Cert.FfnIdeal.Gen.dats m 0 c).arrAt 5 Cert.FfnIdeal.cfg0.N := by
  funext i
  obtain ⟨r, k, rfl⟩ : ∃ (r : Fin 65536) (k : Fin 1024), i = ix2 r k := ⟨i 0, i 1, ValueIdx.eq_ix2 i⟩
  exact (Cert.FfnR.ref_at _ _ _ _ _ r k).trans (Cert.FfnV.arr_at m c r k).symm

/-- Kernel and reference, from equal arguments, end with equal results and the arguments unchanged. -/
theorem algebraic : Cert.algebraic_FfnIdeal_FfnRefIdeal := by
  intro m g m' g' _ hag
  refine ⟨fun c => (Cert.FfnIdeal.Gen.dats m 0 c).arrAt 5 Cert.FfnIdeal.cfg0.N, Cert.FfnIdeal.Value.run_blocks m g, ?_⟩
  refine θ_run_mono (Cert.FfnRefIdeal.Value.run m' g') fun r h c => ⟨?_, (h c).2⟩
  obtain ⟨h0, h1, h2, h3, h4⟩ := hag c
  rw [(h c).1, Cert.FfnRefIdeal.Read.val_main_v30_eq, h0, h1, h2, h3, h4]
  exact result_eq m c

end Cert.FfnE
-- ==== Proof.lean ====
/-
  The claim: the kernels and the references run to the end with their arguments unchanged, idealizing changes no
  kernel, and each kernel's result equals its reference's.
-/
module
public import proofs.«01_k».proof.Defs
public import proofs.«01_k».proof.Proof.Gen.Band
public import proofs.«01_k».proof.Proof.Gen.Band.Frame
public import proofs.«01_k».proof.Proof.Gen.BandIdeal
public import proofs.«01_k».proof.Proof.Gen.BandIdeal.Frame
public import proofs.«01_k».proof.Proof.Gen.BandRefIdeal
public import proofs.«01_k».proof.Proof.Gen.Step
public import proofs.«01_k».proof.Proof.Gen.Step.Frame
public import proofs.«01_k».proof.Proof.Gen.StepIdeal
public import proofs.«01_k».proof.Proof.Gen.StepIdeal.Frame
public import proofs.«01_k».proof.Proof.Gen.StepRefIdeal
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Gen.SampleRefIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.BandIdeal.Value
public import proofs.«01_k».proof.Proof.Gen.BandRefIdeal.Run
public import proofs.«01_k».proof.Proof.Gen.BandRefIdeal.Read
public import proofs.«01_k».proof.Proof.Gen.StepIdeal.Value
public import proofs.«01_k».proof.Proof.Gen.StepRefIdeal.Run
public import proofs.«01_k».proof.Proof.Gen.StepRefIdeal.Read
public import proofs.«01_k».proof.Proof.Gen.ProjRefIdeal.Run
public import proofs.«01_k».proof.Proof.Gen.ProjRefIdeal.Read
public import proofs.«01_k».proof.Proof.Gen.SampleRefIdeal.Run
public import proofs.«01_k».proof.Proof.Gen.SampleRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.AttnQuiet
public import proofs.«01_k».proof.Proof.BandEq
public import proofs.«01_k».proof.Proof.StepEq
public import proofs.«01_k».proof.Proof.ProjEq
public import proofs.«01_k».proof.Proof.SampleEq
public import proofs.«01_k».proof.Proof.MergeEq
public import proofs.«01_k».proof.Proof.FfnEq
public import proofs.«01_k».proof.Proof.Gen.Pre_band_finite
public import proofs.«01_k».proof.Proof.Gen.Pre_step_finite

@[expose] public section

noncomputable section

namespace Cert.Proof

open Idealize.ShloMosaic

/-- Every claim, in the order in which they are stated. -/
theorem claim : Cert.Claim :=
  ⟨Cert.Band.Gen.facts,
   Cert.BandIdeal.Gen.facts,
   Cert.BandRefIdeal.Gen.facts,
   Cert.Step.Gen.facts,
   Cert.StepIdeal.Gen.facts,
   Cert.StepRefIdeal.Gen.facts,
   Cert.Proj.Gen.facts,
   Cert.ProjIdeal.Gen.facts,
   Cert.ProjRefIdeal.Gen.facts,
   Cert.Sample.Gen.facts,
   Cert.SampleIdeal.Gen.facts,
   Cert.SampleRefIdeal.Gen.facts,
   Cert.Merge.Gen.facts,
   Cert.MergeIdeal.Gen.facts,
   Cert.MergeRefIdeal.Gen.facts,
   Cert.Ffn.Gen.facts,
   Cert.FfnIdeal.Gen.facts,
   Cert.FfnRefIdeal.Gen.facts,
   Cert.Pre_band_finite.Gen.facts,
   Cert.Pre_step_finite.Gen.facts,
   fun m ρ _ => Cert.Band.Gen.frame m ρ,
   fun m ρ _ => Cert.BandIdeal.Gen.frame m ρ,
   fun m ρ _ => Cert.BandIdeal.Gen.frame m ρ,
   Cert.AttnQ.band,
   Cert.AttnQ.band_pre,
   fun m ρ _ => Cert.Step.Gen.frame m ρ,
   fun m ρ _ => Cert.StepIdeal.Gen.frame m ρ,
   fun m ρ _ => Cert.StepIdeal.Gen.frame m ρ,
   Cert.AttnQ.step,
   Cert.AttnQ.step_pre,
   fun m ρ _ => Cert.Proj.Gen.frame m ρ,
   fun m ρ _ => Cert.ProjIdeal.Gen.frame m ρ,
   Cert.ProjE.quiescent_ref,
   fun m ρ _ => Cert.Sample.Gen.frame m ρ,
   fun m ρ _ => Cert.SampleIdeal.Gen.frame m ρ,
   Cert.SampleE.quiescent_ref,
   fun m ρ _ => Cert.Merge.Gen.frame m ρ,
   fun m ρ _ => Cert.MergeIdeal.Gen.frame m ρ,
   Cert.MergeE.quiescent_ref,
   fun m ρ _ => Cert.Ffn.Gen.frame m ρ,
   fun m ρ _ => Cert.FfnIdeal.Gen.frame m ρ,
   Cert.FfnE.quiescent_ref,
   trivial,
   Cert.BandE.algebraic,
   trivial,
   Cert.StepE.algebraic,
   trivial,
   Cert.ProjE.algebraic,
   trivial,
   Cert.SampleE.algebraic,
   trivial,
   Cert.MergeE.algebraic,
   trivial,
   Cert.FfnE.algebraic⟩

end Cert.Proof

end
